-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x512 : Shape := ⟨3, ![2, 4096, 512]⟩
abbrev S7x512x1024 : Shape := ⟨3, ![7, 512, 1024]⟩
abbrev S2x4 : Shape := ⟨2, ![2, 4]⟩
abbrev S7x2 : Shape := ⟨2, ![7, 2]⟩
abbrev S1x1 : Shape := ⟨2, ![1, 1]⟩
abbrev S_ : Shape := ⟨0, ![]⟩
abbrev S1x1024x512 : Shape := ⟨3, ![1, 1024, 512]⟩
abbrev S1024x512 : Shape := ⟨2, ![1024, 512]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S2x4096x512, .f32⟩
  | .local _ .vmem, ⟨3, _⟩ => ⟨S7x512x1024, .bf16⟩
  | .local _ .vmem, ⟨4, _⟩ => ⟨S7x512x1024, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) (c0_i32_6 : BitVec 32) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c0_i32
  let c8_i32_0 : BitVec 32 := 8#32
  let c0_i32_1 : BitVec 32 := 0#32
  let v4 : BitVec 1 := Scalar.cmpi .eq c8_i32_0 c0_i32_1
  let c1_i32_2 : BitVec 32 := 1#32
  let v5 : BitVec 32 := Scalar.select v4 c1_i32_2 c8_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32 : BitVec 32 := 1024#32
  let v14 : BitVec 32 := Scalar.muli v13 c1024_i32
  let v15 : BitVec 32 := Scalar.addi v14 c0_i32_6
  ![0, v15.toNat]
def k0_off2 (d0 : Dev nD) (c0_i32_13 : BitVec 32) (c0_i32_21 : BitVec 32) : Fin 2 → Nat :=
  let c1024_i32_27 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v21 : BitVec 32 := Scalar.addi v2 c0_i32_13
  let c8_i32_14 : BitVec 32 := 8#32
  let c0_i32_15 : BitVec 32 := 0#32
  let v22 : BitVec 1 := Scalar.cmpi .eq c8_i32_14 c0_i32_15
  let c1_i32_16 : BitVec 32 := 1#32
  let v23 : BitVec 32 := Scalar.select v22 c1_i32_16 c8_i32_14
  let v24 : BitVec 32 := Scalar.remsi v21 v23
  let c0_i32_18 : BitVec 32 := 0#32
  let v26 : BitVec 1 := Scalar.cmpi .slt v24 c0_i32_18
  let c0_i32_19 : BitVec 32 := 0#32
  let v27 : BitVec 1 := Scalar.cmpi .slt v23 c0_i32_19
  let v28 : BitVec 1 := Scalar.xori v26 v27
  let c0_i32_17 : BitVec 32 := 0#32
  let v25 : BitVec 1 := Scalar.cmpi .ne v24 c0_i32_17
  let v29 : BitVec 1 := Scalar.andi v28 v25
  let v30 : BitVec 32 := Scalar.addi v24 v23
  let v31 : BitVec 32 := Scalar.select v29 v30 v24
  let c1024_i32_20 : BitVec 32 := 1024#32
  let v32 : BitVec 32 := Scalar.muli v31 c1024_i32_20
  let v33 : BitVec 32 := Scalar.addi v32 c0_i32_21
  ![1024, v33.toNat]
def k0_off3 (d0 : Dev nD) (c0_i32_28 : BitVec 32) (c0_i32_36 : BitVec 32) : Fin 2 → Nat :=
  let c2048_i32_40 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.addi v2 c0_i32_28
  let c8_i32_29 : BitVec 32 := 8#32
  let c0_i32_30 : BitVec 32 := 0#32
  let v40 : BitVec 1 := Scalar.cmpi .eq c8_i32_29 c0_i32_30
  let c1_i32_31 : BitVec 32 := 1#32
  let v41 : BitVec 32 := Scalar.select v40 c1_i32_31 c8_i32_29
  let v42 : BitVec 32 := Scalar.remsi v39 v41
  let c0_i32_33 : BitVec 32 := 0#32
  let v44 : BitVec 1 := Scalar.cmpi .slt v42 c0_i32_33
  let c0_i32_34 : BitVec 32 := 0#32
  let v45 : BitVec 1 := Scalar.cmpi .slt v41 c0_i32_34
  let v46 : BitVec 1 := Scalar.xori v44 v45
  let c0_i32_32 : BitVec 32 := 0#32
  let v43 : BitVec 1 := Scalar.cmpi .ne v42 c0_i32_32
  let v47 : BitVec 1 := Scalar.andi v46 v43
  let v48 : BitVec 32 := Scalar.addi v42 v41
  let v49 : BitVec 32 := Scalar.select v47 v48 v42
  let c1024_i32_35 : BitVec 32 := 1024#32
  let v50 : BitVec 32 := Scalar.muli v49 c1024_i32_35
  let v51 : BitVec 32 := Scalar.addi v50 c0_i32_36
  ![2048, v51.toNat]
def k0_off4 (d0 : Dev nD) (c0_i32_41 : BitVec 32) (c0_i32_49 : BitVec 32) : Fin 2 → Nat :=
  let c3072_i32_53 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : BitVec 32 := Scalar.addi v2 c0_i32_41
  let c8_i32_42 : BitVec 32 := 8#32
  let c0_i32_43 : BitVec 32 := 0#32
  let v58 : BitVec 1 := Scalar.cmpi .eq c8_i32_42 c0_i32_43
  let c1_i32_44 : BitVec 32 := 1#32
  let v59 : BitVec 32 := Scalar.select v58 c1_i32_44 c8_i32_42
  let v60 : BitVec 32 := Scalar.remsi v57 v59
  let c0_i32_46 : BitVec 32 := 0#32
  let v62 : BitVec 1 := Scalar.cmpi .slt v60 c0_i32_46
  let c0_i32_47 : BitVec 32 := 0#32
  let v63 : BitVec 1 := Scalar.cmpi .slt v59 c0_i32_47
  let v64 : BitVec 1 := Scalar.xori v62 v63
  let c0_i32_45 : BitVec 32 := 0#32
  let v61 : BitVec 1 := Scalar.cmpi .ne v60 c0_i32_45
  let v65 : BitVec 1 := Scalar.andi v64 v61
  let v66 : BitVec 32 := Scalar.addi v60 v59
  let v67 : BitVec 32 := Scalar.select v65 v66 v60
  let c1024_i32_48 : BitVec 32 := 1024#32
  let v68 : BitVec 32 := Scalar.muli v67 c1024_i32_48
  let v69 : BitVec 32 := Scalar.addi v68 c0_i32_49
  ![3072, v69.toNat]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  let v76 : BitVec 1 := Scalar.cmpi .ne v2 c0_i32_54
  let v77 : BitVec 32 := Scalar.extui v76
  let c0_i32_55 : BitVec 32 := 0#32
  let v78 : BitVec 1 := Scalar.cmpi .ne v77 c0_i32_55
  v78

def k0_dev1 : Nat :=
  let c0_i32_2764 : BitVec 32 := 0#32
  let c0_i32_2762 : BitVec 32 := 0#32
  let c1_i32_2763 : BitVec 32 := 1#32
  let v3115 : BitVec 32 := Scalar.muli c0_i32_2762 c1_i32_2763
  let v3116 : BitVec 32 := Scalar.addi c0_i32_2764 v3115
  v3116.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_56 : BitVec 32 := 1#32
  let v79 : BitVec 1 := Scalar.cmpi .ne v2 c1_i32_56
  let v80 : BitVec 32 := Scalar.extui v79
  let c0_i32_57 : BitVec 32 := 0#32
  let v81 : BitVec 1 := Scalar.cmpi .ne v80 c0_i32_57
  v81

def k0_dev2 : Nat :=
  let c0_i32_2764 : BitVec 32 := 0#32
  let c1_i32_2762 : BitVec 32 := 1#32
  let c1_i32_2763 : BitVec 32 := 1#32
  let v3115 : BitVec 32 := Scalar.muli c1_i32_2762 c1_i32_2763
  let v3116 : BitVec 32 := Scalar.addi c0_i32_2764 v3115
  v3116.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_58 : BitVec 32 := 2#32
  let v82 : BitVec 1 := Scalar.cmpi .ne v2 c2_i32_58
  let v83 : BitVec 32 := Scalar.extui v82
  let c0_i32_59 : BitVec 32 := 0#32
  let v84 : BitVec 1 := Scalar.cmpi .ne v83 c0_i32_59
  v84

def k0_dev3 : Nat :=
  let c0_i32_2764 : BitVec 32 := 0#32
  let c2_i32_2762 : BitVec 32 := 2#32
  let c1_i32_2763 : BitVec 32 := 1#32
  let v3115 : BitVec 32 := Scalar.muli c2_i32_2762 c1_i32_2763
  let v3116 : BitVec 32 := Scalar.addi c0_i32_2764 v3115
  v3116.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v85 : BitVec 1 := Scalar.cmpi .ne v2 c3_i32_60
  let v86 : BitVec 32 := Scalar.extui v85
  let c0_i32_61 : BitVec 32 := 0#32
  let v87 : BitVec 1 := Scalar.cmpi .ne v86 c0_i32_61
  v87

def k0_dev4 : Nat :=
  let c0_i32_2764 : BitVec 32 := 0#32
  let c3_i32_2762 : BitVec 32 := 3#32
  let c1_i32_2763 : BitVec 32 := 1#32
  let v3115 : BitVec 32 := Scalar.muli c3_i32_2762 c1_i32_2763
  let v3116 : BitVec 32 := Scalar.addi c0_i32_2764 v3115
  v3116.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v88 : BitVec 1 := Scalar.cmpi .ne v2 c4_i32
  let v89 : BitVec 32 := Scalar.extui v88
  let c0_i32_62 : BitVec 32 := 0#32
  let v90 : BitVec 1 := Scalar.cmpi .ne v89 c0_i32_62
  v90

def k0_dev5 : Nat :=
  let c0_i32_2764 : BitVec 32 := 0#32
  let c4_i32_2762 : BitVec 32 := 4#32
  let c1_i32_2763 : BitVec 32 := 1#32
  let v3115 : BitVec 32 := Scalar.muli c4_i32_2762 c1_i32_2763
  let v3116 : BitVec 32 := Scalar.addi c0_i32_2764 v3115
  v3116.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v91 : BitVec 1 := Scalar.cmpi .ne v2 c5_i32
  let v92 : BitVec 32 := Scalar.extui v91
  let c0_i32_63 : BitVec 32 := 0#32
  let v93 : BitVec 1 := Scalar.cmpi .ne v92 c0_i32_63
  v93

def k0_dev6 : Nat :=
  let c0_i32_2764 : BitVec 32 := 0#32
  let c5_i32_2762 : BitVec 32 := 5#32
  let c1_i32_2763 : BitVec 32 := 1#32
  let v3115 : BitVec 32 := Scalar.muli c5_i32_2762 c1_i32_2763
  let v3116 : BitVec 32 := Scalar.addi c0_i32_2764 v3115
  v3116.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v94 : BitVec 1 := Scalar.cmpi .ne v2 c6_i32
  let v95 : BitVec 32 := Scalar.extui v94
  let c0_i32_64 : BitVec 32 := 0#32
  let v96 : BitVec 1 := Scalar.cmpi .ne v95 c0_i32_64
  v96

def k0_dev7 : Nat :=
  let c0_i32_2764 : BitVec 32 := 0#32
  let c6_i32_2762 : BitVec 32 := 6#32
  let c1_i32_2763 : BitVec 32 := 1#32
  let v3115 : BitVec 32 := Scalar.muli c6_i32_2762 c1_i32_2763
  let v3116 : BitVec 32 := Scalar.addi c0_i32_2764 v3115
  v3116.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v97 : BitVec 1 := Scalar.cmpi .ne v2 c7_i32
  let v98 : BitVec 32 := Scalar.extui v97
  let c0_i32_65 : BitVec 32 := 0#32
  let v99 : BitVec 1 := Scalar.cmpi .ne v98 c0_i32_65
  v99

def k0_dev8 : Nat :=
  let c0_i32_2764 : BitVec 32 := 0#32
  let c7_i32_2762 : BitVec 32 := 7#32
  let c1_i32_2763 : BitVec 32 := 1#32
  let v3115 : BitVec 32 := Scalar.muli c7_i32_2762 c1_i32_2763
  let v3116 : BitVec 32 := Scalar.addi c0_i32_2764 v3115
  v3116.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_191 : BitVec 32 := 512#32
  let v251 : BitVec 32 := Scalar.muli v2 c512_i32_191
  let v252 : Index := Scalar.indexCast v251
  let c0_192 : Index := 0#32
  ![v252.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_319 : BitVec 32 := 512#32
  let v405 : BitVec 32 := Scalar.muli v2 c512_i32_319
  let v406 : Index := Scalar.indexCast v405
  let c512 : Index := 512#32
  ![v406.toNat, 512]
def k0_dev9 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_450 : BitVec 32 := 1#32
  let v563 : BitVec 32 := Scalar.addi v2 c1_i32_450
  let c8_i32_451 : BitVec 32 := 8#32
  let c0_i32_452 : BitVec 32 := 0#32
  let v564 : BitVec 1 := Scalar.cmpi .eq c8_i32_451 c0_i32_452
  let c1_i32_453 : BitVec 32 := 1#32
  let v565 : BitVec 32 := Scalar.select v564 c1_i32_453 c8_i32_451
  let v566 : BitVec 32 := Scalar.remsi v563 v565
  let c0_i32_455 : BitVec 32 := 0#32
  let v568 : BitVec 1 := Scalar.cmpi .slt v566 c0_i32_455
  let c0_i32_456 : BitVec 32 := 0#32
  let v569 : BitVec 1 := Scalar.cmpi .slt v565 c0_i32_456
  let v570 : BitVec 1 := Scalar.xori v568 v569
  let c0_i32_454 : BitVec 32 := 0#32
  let v567 : BitVec 1 := Scalar.cmpi .ne v566 c0_i32_454
  let v571 : BitVec 1 := Scalar.andi v570 v567
  let v572 : BitVec 32 := Scalar.addi v566 v565
  let v573 : BitVec 32 := Scalar.select v571 v572 v566
  let c1_i32_463 : BitVec 32 := 1#32
  let v574 : BitVec 32 := Scalar.muli v573 c1_i32_463
  let v575 : BitVec 32 := Scalar.addi c0_i32_464 v574
  v575.toNat
def k0_dev10 (d0 : Dev nD) : Nat :=
  let c0_i32_613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_599 : BitVec 32 := 1#32
  let v739 : BitVec 32 := Scalar.addi v2 c1_i32_599
  let c8_i32_600 : BitVec 32 := 8#32
  let c0_i32_601 : BitVec 32 := 0#32
  let v740 : BitVec 1 := Scalar.cmpi .eq c8_i32_600 c0_i32_601
  let c1_i32_602 : BitVec 32 := 1#32
  let v741 : BitVec 32 := Scalar.select v740 c1_i32_602 c8_i32_600
  let v742 : BitVec 32 := Scalar.remsi v739 v741
  let c0_i32_604 : BitVec 32 := 0#32
  let v744 : BitVec 1 := Scalar.cmpi .slt v742 c0_i32_604
  let c0_i32_605 : BitVec 32 := 0#32
  let v745 : BitVec 1 := Scalar.cmpi .slt v741 c0_i32_605
  let v746 : BitVec 1 := Scalar.xori v744 v745
  let c0_i32_603 : BitVec 32 := 0#32
  let v743 : BitVec 1 := Scalar.cmpi .ne v742 c0_i32_603
  let v747 : BitVec 1 := Scalar.andi v746 v743
  let v748 : BitVec 32 := Scalar.addi v742 v741
  let v749 : BitVec 32 := Scalar.select v747 v748 v742
  let c1_i32_612 : BitVec 32 := 1#32
  let v750 : BitVec 32 := Scalar.muli v749 c1_i32_612
  let v751 : BitVec 32 := Scalar.addi c0_i32_613 v750
  v751.toNat
def k0_dev11 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_748 : BitVec 32 := 2#32
  let v915 : BitVec 32 := Scalar.addi v2 c2_i32_748
  let c8_i32_749 : BitVec 32 := 8#32
  let c0_i32_750 : BitVec 32 := 0#32
  let v916 : BitVec 1 := Scalar.cmpi .eq c8_i32_749 c0_i32_750
  let c1_i32_751 : BitVec 32 := 1#32
  let v917 : BitVec 32 := Scalar.select v916 c1_i32_751 c8_i32_749
  let v918 : BitVec 32 := Scalar.remsi v915 v917
  let c0_i32_753 : BitVec 32 := 0#32
  let v920 : BitVec 1 := Scalar.cmpi .slt v918 c0_i32_753
  let c0_i32_754 : BitVec 32 := 0#32
  let v921 : BitVec 1 := Scalar.cmpi .slt v917 c0_i32_754
  let v922 : BitVec 1 := Scalar.xori v920 v921
  let c0_i32_752 : BitVec 32 := 0#32
  let v919 : BitVec 1 := Scalar.cmpi .ne v918 c0_i32_752
  let v923 : BitVec 1 := Scalar.andi v922 v919
  let v924 : BitVec 32 := Scalar.addi v918 v917
  let v925 : BitVec 32 := Scalar.select v923 v924 v918
  let c1_i32_761 : BitVec 32 := 1#32
  let v926 : BitVec 32 := Scalar.muli v925 c1_i32_761
  let v927 : BitVec 32 := Scalar.addi c0_i32_762 v926
  v927.toNat
def k0_dev12 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_897 : BitVec 32 := 2#32
  let v1091 : BitVec 32 := Scalar.addi v2 c2_i32_897
  let c8_i32_898 : BitVec 32 := 8#32
  let c0_i32_899 : BitVec 32 := 0#32
  let v1092 : BitVec 1 := Scalar.cmpi .eq c8_i32_898 c0_i32_899
  let c1_i32_900 : BitVec 32 := 1#32
  let v1093 : BitVec 32 := Scalar.select v1092 c1_i32_900 c8_i32_898
  let v1094 : BitVec 32 := Scalar.remsi v1091 v1093
  let c0_i32_902 : BitVec 32 := 0#32
  let v1096 : BitVec 1 := Scalar.cmpi .slt v1094 c0_i32_902
  let c0_i32_903 : BitVec 32 := 0#32
  let v1097 : BitVec 1 := Scalar.cmpi .slt v1093 c0_i32_903
  let v1098 : BitVec 1 := Scalar.xori v1096 v1097
  let c0_i32_901 : BitVec 32 := 0#32
  let v1095 : BitVec 1 := Scalar.cmpi .ne v1094 c0_i32_901
  let v1099 : BitVec 1 := Scalar.andi v1098 v1095
  let v1100 : BitVec 32 := Scalar.addi v1094 v1093
  let v1101 : BitVec 32 := Scalar.select v1099 v1100 v1094
  let c1_i32_910 : BitVec 32 := 1#32
  let v1102 : BitVec 32 := Scalar.muli v1101 c1_i32_910
  let v1103 : BitVec 32 := Scalar.addi c0_i32_911 v1102
  v1103.toNat
def k0_dev13 (d0 : Dev nD) : Nat :=
  let c0_i32_1059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1045 : BitVec 32 := 3#32
  let v1267 : BitVec 32 := Scalar.addi v2 c3_i32_1045
  let c8_i32_1046 : BitVec 32 := 8#32
  let c0_i32_1047 : BitVec 32 := 0#32
  let v1268 : BitVec 1 := Scalar.cmpi .eq c8_i32_1046 c0_i32_1047
  let c1_i32_1048 : BitVec 32 := 1#32
  let v1269 : BitVec 32 := Scalar.select v1268 c1_i32_1048 c8_i32_1046
  let v1270 : BitVec 32 := Scalar.remsi v1267 v1269
  let c0_i32_1050 : BitVec 32 := 0#32
  let v1272 : BitVec 1 := Scalar.cmpi .slt v1270 c0_i32_1050
  let c0_i32_1051 : BitVec 32 := 0#32
  let v1273 : BitVec 1 := Scalar.cmpi .slt v1269 c0_i32_1051
  let v1274 : BitVec 1 := Scalar.xori v1272 v1273
  let c0_i32_1049 : BitVec 32 := 0#32
  let v1271 : BitVec 1 := Scalar.cmpi .ne v1270 c0_i32_1049
  let v1275 : BitVec 1 := Scalar.andi v1274 v1271
  let v1276 : BitVec 32 := Scalar.addi v1270 v1269
  let v1277 : BitVec 32 := Scalar.select v1275 v1276 v1270
  let c1_i32_1058 : BitVec 32 := 1#32
  let v1278 : BitVec 32 := Scalar.muli v1277 c1_i32_1058
  let v1279 : BitVec 32 := Scalar.addi c0_i32_1059 v1278
  v1279.toNat
def k0_dev14 (d0 : Dev nD) : Nat :=
  let c0_i32_1208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1194 : BitVec 32 := 3#32
  let v1443 : BitVec 32 := Scalar.addi v2 c3_i32_1194
  let c8_i32_1195 : BitVec 32 := 8#32
  let c0_i32_1196 : BitVec 32 := 0#32
  let v1444 : BitVec 1 := Scalar.cmpi .eq c8_i32_1195 c0_i32_1196
  let c1_i32_1197 : BitVec 32 := 1#32
  let v1445 : BitVec 32 := Scalar.select v1444 c1_i32_1197 c8_i32_1195
  let v1446 : BitVec 32 := Scalar.remsi v1443 v1445
  let c0_i32_1199 : BitVec 32 := 0#32
  let v1448 : BitVec 1 := Scalar.cmpi .slt v1446 c0_i32_1199
  let c0_i32_1200 : BitVec 32 := 0#32
  let v1449 : BitVec 1 := Scalar.cmpi .slt v1445 c0_i32_1200
  let v1450 : BitVec 1 := Scalar.xori v1448 v1449
  let c0_i32_1198 : BitVec 32 := 0#32
  let v1447 : BitVec 1 := Scalar.cmpi .ne v1446 c0_i32_1198
  let v1451 : BitVec 1 := Scalar.andi v1450 v1447
  let v1452 : BitVec 32 := Scalar.addi v1446 v1445
  let v1453 : BitVec 32 := Scalar.select v1451 v1452 v1446
  let c1_i32_1207 : BitVec 32 := 1#32
  let v1454 : BitVec 32 := Scalar.muli v1453 c1_i32_1207
  let v1455 : BitVec 32 := Scalar.addi c0_i32_1208 v1454
  v1455.toNat
def k0_dev15 (d0 : Dev nD) : Nat :=
  let c0_i32_1356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1342 : BitVec 32 := 4#32
  let v1619 : BitVec 32 := Scalar.addi v2 c4_i32_1342
  let c8_i32_1343 : BitVec 32 := 8#32
  let c0_i32_1344 : BitVec 32 := 0#32
  let v1620 : BitVec 1 := Scalar.cmpi .eq c8_i32_1343 c0_i32_1344
  let c1_i32_1345 : BitVec 32 := 1#32
  let v1621 : BitVec 32 := Scalar.select v1620 c1_i32_1345 c8_i32_1343
  let v1622 : BitVec 32 := Scalar.remsi v1619 v1621
  let c0_i32_1347 : BitVec 32 := 0#32
  let v1624 : BitVec 1 := Scalar.cmpi .slt v1622 c0_i32_1347
  let c0_i32_1348 : BitVec 32 := 0#32
  let v1625 : BitVec 1 := Scalar.cmpi .slt v1621 c0_i32_1348
  let v1626 : BitVec 1 := Scalar.xori v1624 v1625
  let c0_i32_1346 : BitVec 32 := 0#32
  let v1623 : BitVec 1 := Scalar.cmpi .ne v1622 c0_i32_1346
  let v1627 : BitVec 1 := Scalar.andi v1626 v1623
  let v1628 : BitVec 32 := Scalar.addi v1622 v1621
  let v1629 : BitVec 32 := Scalar.select v1627 v1628 v1622
  let c1_i32_1355 : BitVec 32 := 1#32
  let v1630 : BitVec 32 := Scalar.muli v1629 c1_i32_1355
  let v1631 : BitVec 32 := Scalar.addi c0_i32_1356 v1630
  v1631.toNat
def k0_dev16 (d0 : Dev nD) : Nat :=
  let c0_i32_1505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1491 : BitVec 32 := 4#32
  let v1795 : BitVec 32 := Scalar.addi v2 c4_i32_1491
  let c8_i32_1492 : BitVec 32 := 8#32
  let c0_i32_1493 : BitVec 32 := 0#32
  let v1796 : BitVec 1 := Scalar.cmpi .eq c8_i32_1492 c0_i32_1493
  let c1_i32_1494 : BitVec 32 := 1#32
  let v1797 : BitVec 32 := Scalar.select v1796 c1_i32_1494 c8_i32_1492
  let v1798 : BitVec 32 := Scalar.remsi v1795 v1797
  let c0_i32_1496 : BitVec 32 := 0#32
  let v1800 : BitVec 1 := Scalar.cmpi .slt v1798 c0_i32_1496
  let c0_i32_1497 : BitVec 32 := 0#32
  let v1801 : BitVec 1 := Scalar.cmpi .slt v1797 c0_i32_1497
  let v1802 : BitVec 1 := Scalar.xori v1800 v1801
  let c0_i32_1495 : BitVec 32 := 0#32
  let v1799 : BitVec 1 := Scalar.cmpi .ne v1798 c0_i32_1495
  let v1803 : BitVec 1 := Scalar.andi v1802 v1799
  let v1804 : BitVec 32 := Scalar.addi v1798 v1797
  let v1805 : BitVec 32 := Scalar.select v1803 v1804 v1798
  let c1_i32_1504 : BitVec 32 := 1#32
  let v1806 : BitVec 32 := Scalar.muli v1805 c1_i32_1504
  let v1807 : BitVec 32 := Scalar.addi c0_i32_1505 v1806
  v1807.toNat
def k0_dev17 (d0 : Dev nD) : Nat :=
  let c0_i32_1653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1639 : BitVec 32 := 5#32
  let v1971 : BitVec 32 := Scalar.addi v2 c5_i32_1639
  let c8_i32_1640 : BitVec 32 := 8#32
  let c0_i32_1641 : BitVec 32 := 0#32
  let v1972 : BitVec 1 := Scalar.cmpi .eq c8_i32_1640 c0_i32_1641
  let c1_i32_1642 : BitVec 32 := 1#32
  let v1973 : BitVec 32 := Scalar.select v1972 c1_i32_1642 c8_i32_1640
  let v1974 : BitVec 32 := Scalar.remsi v1971 v1973
  let c0_i32_1644 : BitVec 32 := 0#32
  let v1976 : BitVec 1 := Scalar.cmpi .slt v1974 c0_i32_1644
  let c0_i32_1645 : BitVec 32 := 0#32
  let v1977 : BitVec 1 := Scalar.cmpi .slt v1973 c0_i32_1645
  let v1978 : BitVec 1 := Scalar.xori v1976 v1977
  let c0_i32_1643 : BitVec 32 := 0#32
  let v1975 : BitVec 1 := Scalar.cmpi .ne v1974 c0_i32_1643
  let v1979 : BitVec 1 := Scalar.andi v1978 v1975
  let v1980 : BitVec 32 := Scalar.addi v1974 v1973
  let v1981 : BitVec 32 := Scalar.select v1979 v1980 v1974
  let c1_i32_1652 : BitVec 32 := 1#32
  let v1982 : BitVec 32 := Scalar.muli v1981 c1_i32_1652
  let v1983 : BitVec 32 := Scalar.addi c0_i32_1653 v1982
  v1983.toNat
def k0_dev18 (d0 : Dev nD) : Nat :=
  let c0_i32_1802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1788 : BitVec 32 := 5#32
  let v2147 : BitVec 32 := Scalar.addi v2 c5_i32_1788
  let c8_i32_1789 : BitVec 32 := 8#32
  let c0_i32_1790 : BitVec 32 := 0#32
  let v2148 : BitVec 1 := Scalar.cmpi .eq c8_i32_1789 c0_i32_1790
  let c1_i32_1791 : BitVec 32 := 1#32
  let v2149 : BitVec 32 := Scalar.select v2148 c1_i32_1791 c8_i32_1789
  let v2150 : BitVec 32 := Scalar.remsi v2147 v2149
  let c0_i32_1793 : BitVec 32 := 0#32
  let v2152 : BitVec 1 := Scalar.cmpi .slt v2150 c0_i32_1793
  let c0_i32_1794 : BitVec 32 := 0#32
  let v2153 : BitVec 1 := Scalar.cmpi .slt v2149 c0_i32_1794
  let v2154 : BitVec 1 := Scalar.xori v2152 v2153
  let c0_i32_1792 : BitVec 32 := 0#32
  let v2151 : BitVec 1 := Scalar.cmpi .ne v2150 c0_i32_1792
  let v2155 : BitVec 1 := Scalar.andi v2154 v2151
  let v2156 : BitVec 32 := Scalar.addi v2150 v2149
  let v2157 : BitVec 32 := Scalar.select v2155 v2156 v2150
  let c1_i32_1801 : BitVec 32 := 1#32
  let v2158 : BitVec 32 := Scalar.muli v2157 c1_i32_1801
  let v2159 : BitVec 32 := Scalar.addi c0_i32_1802 v2158
  v2159.toNat
def k0_dev19 (d0 : Dev nD) : Nat :=
  let c0_i32_1950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1936 : BitVec 32 := 6#32
  let v2323 : BitVec 32 := Scalar.addi v2 c6_i32_1936
  let c8_i32_1937 : BitVec 32 := 8#32
  let c0_i32_1938 : BitVec 32 := 0#32
  let v2324 : BitVec 1 := Scalar.cmpi .eq c8_i32_1937 c0_i32_1938
  let c1_i32_1939 : BitVec 32 := 1#32
  let v2325 : BitVec 32 := Scalar.select v2324 c1_i32_1939 c8_i32_1937
  let v2326 : BitVec 32 := Scalar.remsi v2323 v2325
  let c0_i32_1941 : BitVec 32 := 0#32
  let v2328 : BitVec 1 := Scalar.cmpi .slt v2326 c0_i32_1941
  let c0_i32_1942 : BitVec 32 := 0#32
  let v2329 : BitVec 1 := Scalar.cmpi .slt v2325 c0_i32_1942
  let v2330 : BitVec 1 := Scalar.xori v2328 v2329
  let c0_i32_1940 : BitVec 32 := 0#32
  let v2327 : BitVec 1 := Scalar.cmpi .ne v2326 c0_i32_1940
  let v2331 : BitVec 1 := Scalar.andi v2330 v2327
  let v2332 : BitVec 32 := Scalar.addi v2326 v2325
  let v2333 : BitVec 32 := Scalar.select v2331 v2332 v2326
  let c1_i32_1949 : BitVec 32 := 1#32
  let v2334 : BitVec 32 := Scalar.muli v2333 c1_i32_1949
  let v2335 : BitVec 32 := Scalar.addi c0_i32_1950 v2334
  v2335.toNat
def k0_dev20 (d0 : Dev nD) : Nat :=
  let c0_i32_2099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2085 : BitVec 32 := 6#32
  let v2499 : BitVec 32 := Scalar.addi v2 c6_i32_2085
  let c8_i32_2086 : BitVec 32 := 8#32
  let c0_i32_2087 : BitVec 32 := 0#32
  let v2500 : BitVec 1 := Scalar.cmpi .eq c8_i32_2086 c0_i32_2087
  let c1_i32_2088 : BitVec 32 := 1#32
  let v2501 : BitVec 32 := Scalar.select v2500 c1_i32_2088 c8_i32_2086
  let v2502 : BitVec 32 := Scalar.remsi v2499 v2501
  let c0_i32_2090 : BitVec 32 := 0#32
  let v2504 : BitVec 1 := Scalar.cmpi .slt v2502 c0_i32_2090
  let c0_i32_2091 : BitVec 32 := 0#32
  let v2505 : BitVec 1 := Scalar.cmpi .slt v2501 c0_i32_2091
  let v2506 : BitVec 1 := Scalar.xori v2504 v2505
  let c0_i32_2089 : BitVec 32 := 0#32
  let v2503 : BitVec 1 := Scalar.cmpi .ne v2502 c0_i32_2089
  let v2507 : BitVec 1 := Scalar.andi v2506 v2503
  let v2508 : BitVec 32 := Scalar.addi v2502 v2501
  let v2509 : BitVec 32 := Scalar.select v2507 v2508 v2502
  let c1_i32_2098 : BitVec 32 := 1#32
  let v2510 : BitVec 32 := Scalar.muli v2509 c1_i32_2098
  let v2511 : BitVec 32 := Scalar.addi c0_i32_2099 v2510
  v2511.toNat
def k0_dev21 (d0 : Dev nD) : Nat :=
  let c0_i32_2247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2233 : BitVec 32 := 7#32
  let v2675 : BitVec 32 := Scalar.addi v2 c7_i32_2233
  let c8_i32_2234 : BitVec 32 := 8#32
  let c0_i32_2235 : BitVec 32 := 0#32
  let v2676 : BitVec 1 := Scalar.cmpi .eq c8_i32_2234 c0_i32_2235
  let c1_i32_2236 : BitVec 32 := 1#32
  let v2677 : BitVec 32 := Scalar.select v2676 c1_i32_2236 c8_i32_2234
  let v2678 : BitVec 32 := Scalar.remsi v2675 v2677
  let c0_i32_2238 : BitVec 32 := 0#32
  let v2680 : BitVec 1 := Scalar.cmpi .slt v2678 c0_i32_2238
  let c0_i32_2239 : BitVec 32 := 0#32
  let v2681 : BitVec 1 := Scalar.cmpi .slt v2677 c0_i32_2239
  let v2682 : BitVec 1 := Scalar.xori v2680 v2681
  let c0_i32_2237 : BitVec 32 := 0#32
  let v2679 : BitVec 1 := Scalar.cmpi .ne v2678 c0_i32_2237
  let v2683 : BitVec 1 := Scalar.andi v2682 v2679
  let v2684 : BitVec 32 := Scalar.addi v2678 v2677
  let v2685 : BitVec 32 := Scalar.select v2683 v2684 v2678
  let c1_i32_2246 : BitVec 32 := 1#32
  let v2686 : BitVec 32 := Scalar.muli v2685 c1_i32_2246
  let v2687 : BitVec 32 := Scalar.addi c0_i32_2247 v2686
  v2687.toNat
def k0_dev22 (d0 : Dev nD) : Nat :=
  let c0_i32_2336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2322 : BitVec 32 := 7#32
  let v2779 : BitVec 32 := Scalar.addi v2 c7_i32_2322
  let c8_i32_2323 : BitVec 32 := 8#32
  let c0_i32_2324 : BitVec 32 := 0#32
  let v2780 : BitVec 1 := Scalar.cmpi .eq c8_i32_2323 c0_i32_2324
  let c1_i32_2325 : BitVec 32 := 1#32
  let v2781 : BitVec 32 := Scalar.select v2780 c1_i32_2325 c8_i32_2323
  let v2782 : BitVec 32 := Scalar.remsi v2779 v2781
  let c0_i32_2327 : BitVec 32 := 0#32
  let v2784 : BitVec 1 := Scalar.cmpi .slt v2782 c0_i32_2327
  let c0_i32_2328 : BitVec 32 := 0#32
  let v2785 : BitVec 1 := Scalar.cmpi .slt v2781 c0_i32_2328
  let v2786 : BitVec 1 := Scalar.xori v2784 v2785
  let c0_i32_2326 : BitVec 32 := 0#32
  let v2783 : BitVec 1 := Scalar.cmpi .ne v2782 c0_i32_2326
  let v2787 : BitVec 1 := Scalar.andi v2786 v2783
  let v2788 : BitVec 32 := Scalar.addi v2782 v2781
  let v2789 : BitVec 32 := Scalar.select v2787 v2788 v2782
  let c1_i32_2335 : BitVec 32 := 1#32
  let v2790 : BitVec 32 := Scalar.muli v2789 c1_i32_2335
  let v2791 : BitVec 32 := Scalar.addi c0_i32_2336 v2790
  v2791.toNat
def k0_off7 (d0 : Dev nD) (c1_i32_2367 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2816 : BitVec 32 := Scalar.subi v2 c1_i32_2367
  let c8_i32_2368 : BitVec 32 := 8#32
  let c0_i32_2369 : BitVec 32 := 0#32
  let v2817 : BitVec 1 := Scalar.cmpi .eq c8_i32_2368 c0_i32_2369
  let c1_i32_2370 : BitVec 32 := 1#32
  let v2818 : BitVec 32 := Scalar.select v2817 c1_i32_2370 c8_i32_2368
  let v2819 : BitVec 32 := Scalar.remsi v2816 v2818
  let c0_i32_2372 : BitVec 32 := 0#32
  let v2821 : BitVec 1 := Scalar.cmpi .slt v2819 c0_i32_2372
  let c0_i32_2373 : BitVec 32 := 0#32
  let v2822 : BitVec 1 := Scalar.cmpi .slt v2818 c0_i32_2373
  let v2823 : BitVec 1 := Scalar.xori v2821 v2822
  let c0_i32_2371 : BitVec 32 := 0#32
  let v2820 : BitVec 1 := Scalar.cmpi .ne v2819 c0_i32_2371
  let v2824 : BitVec 1 := Scalar.andi v2823 v2820
  let v2825 : BitVec 32 := Scalar.addi v2819 v2818
  let v2826 : BitVec 32 := Scalar.select v2824 v2825 v2819
  let c512_i32_2377 : BitVec 32 := 512#32
  let v2830 : BitVec 32 := Scalar.muli v2826 c512_i32_2377
  let v2831 : Index := Scalar.indexCast v2830
  let c0_2378 : Index := 0#32
  ![v2831.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Steps.lean ====
/-
  The kernel of one device as a short program: its copies of the weight blocks, its handshake, the eight products
  and the seven sends, the seven receipts and the last waits, each written once for an index. `body_eq` says that
  the printed kernel is this program.

  The device numbered `c` computes, for every device `p`, the block of rows of `x` it holds times the block of columns
  of `w` that `p` must return. `s` counts the devices from `c` on (`p = c + s` modulo 8), `h` the two halves of a block
  of columns, `j` the seven other devices (`s = j + 1`).
-/
module

public import proofs.«01_k».proof.Proof.Gen.KernelIdeal
public import proofs.«01_k».proof.Proof.Gen.KernelIdeal.Skeleton
public import Idealize.ShloMosaic.Lib.Pipeline.Regions
public import Idealize.ShloMosaic.Lib.Tactic

@[expose] public section

noncomputable section

namespace Cert.Exchange

open Cert.KernelIdeal Cert.KernelIdeal.Gen
open Idealize.ShloMosaic Idealize.ShloMosaic.TcCoe Idealize.SL.Sem

variable {F : FTy → Type} [FloatOps F]

/-- The programs of one TensorCore. -/
abbrev Pr (F : FTy → Type) [FloatOps F] : Type 1 := Prog (TpuEff nD τ sig (Elt F) Λ₀ .tc) PUnit

/-- `f 0`, then `f 1`, …, then `f (n - 1)`. -/
def forAll {E : Type → Type} : (n : ℕ) → (Fin n → Prog E PUnit) → Prog E PUnit
  | 0, _ => .ret ⟨⟩
  | n + 1, f => f 0 >>= fun _ => forAll n fun i => f i.succ

/-! ## The buffers -/

abbrev xM : Memref sig .tc .vmem S512x4096 .f32 := Memref.whole cc0_stg0_0
abbrev wM : Memref sig .tc .hbm S4096x8192 .f32 := Memref.whole main_arg1
abbrev oM : Memref sig .tc .vmem S4096x1024 .f32 := Memref.whole cc0_stg1_0
abbrev bM : Memref sig .tc .vmem S2x4096x512 .f32 := Memref.whole cc0_scratch0
abbrev sM : Memref sig .tc .vmem S7x512x1024 .bf16 := Memref.whole cc0_scratch1
abbrev rM : Memref sig .tc .vmem S7x512x1024 .bf16 := Memref.whole cc0_scratch2

/-! ## The rectangles -/

/-- Where the quarter `q` of the half `h` of the columns of device `c + s` begins in `w`, as printed. -/
def wOff (c : Dev nD) (s : Fin 8) (h : Fin 2) (q : Fin 4) : Fin 2 → ℕ := match q with
  | 0 => k0_off1 c (BitVec.ofNat 32 s.val) (BitVec.ofNat 32 (512 * h.val))
  | 1 => k0_off2 c (BitVec.ofNat 32 s.val) (BitVec.ofNat 32 (512 * h.val))
  | 2 => k0_off3 c (BitVec.ofNat 32 s.val) (BitVec.ofNat 32 (512 * h.val))
  | 3 => k0_off4 c (BitVec.ofNat 32 s.val) (BitVec.ofNat 32 (512 * h.val))

theorem wOff_eq : ∀ (c : Dev nD) (s : Fin 8) (h : Fin 2) (q : Fin 4), wOff c s h q = ![1024 * q.val, 1024 * ((c.val + s.val) % 8) + 512 * h.val] := by
  decide +kernel

theorem wOff_inb (c : Dev nD) (s : Fin 8) (h : Fin 2) (q : Fin 4) : ∀ a, wOff c s h q a + S1024x512.size a ≤ S4096x8192.size a := by
  rw [wOff_eq]
  have hs : ∀ a, (![1024 * q.val, 1024 * ((c.val + s.val) % 8) + 512 * h.val] : Fin 2 → ℕ) a + (![1024, 512] : Fin 2 → ℕ) a ≤ (![4096, 8192] : Fin 2 → ℕ) a := by
    intro a; fin_cases a <;> simp <;> omega
  exact hs

theorem bInb (h : Fin 2) (q : Fin 4) : ∀ a, (![h.val, 1024 * q.val, 0] : Fin 3 → ℕ) a + S1x1024x512.size a ≤ S2x4096x512.size a := by
  have hs : ∀ a, (![h.val, 1024 * q.val, 0] : Fin 3 → ℕ) a + (![1, 1024, 512] : Fin 3 → ℕ) a ≤ (![2, 4096, 512] : Fin 3 → ℕ) a := by
    intro a; fin_cases a <;> simp <;> omega
  exact hs

theorem bsInb (h : Fin 2) : ∀ a, (![h.val, 0, 0] : Fin 3 → ℕ) a + S1x4096x512.size a ≤ S2x4096x512.size a := by
  have hs : ∀ a, (![h.val, 0, 0] : Fin 3 → ℕ) a + (![1, 4096, 512] : Fin 3 → ℕ) a ≤ (![2, 4096, 512] : Fin 3 → ℕ) a := by
    intro a; fin_cases a <;> simp <;> omega
  exact hs

theorem hInb (j : Fin 7) (h : Fin 2) : ∀ a, (![j.val, 0, 512 * h.val] : Fin 3 → ℕ) a + S1x512x512.size a ≤ S7x512x1024.size a := by
  have hs : ∀ a, (![j.val, 0, 512 * h.val] : Fin 3 → ℕ) a + (![1, 512, 512] : Fin 3 → ℕ) a ≤ (![7, 512, 1024] : Fin 3 → ℕ) a := by
    intro a; fin_cases a <;> simp <;> omega
  exact hs

theorem sInb (j : Fin 7) : ∀ a, (![j.val, 0, 0] : Fin 3 → ℕ) a + S1x512x1024.size a ≤ S7x512x1024.size a := by
  have hs : ∀ a, (![j.val, 0, 0] : Fin 3 → ℕ) a + (![1, 512, 1024] : Fin 3 → ℕ) a ≤ (![7, 512, 1024] : Fin 3 → ℕ) a := by
    intro a; fin_cases a <;> simp <;> omega
  exact hs

theorem qInb (h : Fin 2) (q : Fin 4) : ∀ a, (![h.val, q.val] : Fin 2 → ℕ) a + S1x1.size a ≤ S2x4.size a := by
  have hs : ∀ a, (![h.val, q.val] : Fin 2 → ℕ) a + (![1, 1] : Fin 2 → ℕ) a ≤ (![2, 4] : Fin 2 → ℕ) a := by
    intro a; fin_cases a <;> simp <;> omega
  exact hs

theorem jInb (j : Fin 7) (h : Fin 2) : ∀ a, (![j.val, h.val] : Fin 2 → ℕ) a + S1x1.size a ≤ S7x2.size a := by
  have hs : ∀ a, (![j.val, h.val] : Fin 2 → ℕ) a + (![1, 1] : Fin 2 → ℕ) a ≤ (![7, 2] : Fin 2 → ℕ) a := by
    intro a; fin_cases a <;> simp <;> omega
  exact hs

/-- Quarter `q` of half `h` of the columns of device `c + s` in `w`. -/
abbrev wRect (c : Dev nD) (s : Fin 8) (h : Fin 2) (q : Fin 4) : Rect S4096x8192 := Rect.unit (s := S4096x8192) (wOff c s h q) S1024x512.size (wOff_inb c s h q)
/-- Quarter `q` of the buffer of half `h`. -/
abbrev bRect (h : Fin 2) (q : Fin 4) : Rect S2x4096x512 := Rect.unit (s := S2x4096x512) ![h.val, 1024 * q.val, 0] S1x1024x512.size (bInb h q)
/-- The whole buffer of half `h`. -/
abbrev bsRect (h : Fin 2) : Rect S2x4096x512 := Rect.unit (s := S2x4096x512) ![h.val, 0, 0] S1x4096x512.size (bsInb h)
/-- Half `h` of slot `j` of a send or receive buffer. -/
abbrev hRect (j : Fin 7) (h : Fin 2) : Rect S7x512x1024 := Rect.unit (s := S7x512x1024) ![j.val, 0, 512 * h.val] S1x512x512.size (hInb j h)
/-- Slot `j` of a receive buffer. -/
abbrev sRect (j : Fin 7) : Rect S7x512x1024 := Rect.unit (s := S7x512x1024) ![j.val, 0, 0] S1x512x1024.size (sInb j)

/-- Where half `h` of the device's own rows begins in its result, as printed. -/
def oOff (c : Dev nD) (h : Fin 2) : Fin 2 → ℕ := match h with
  | 0 => k0_off5 c
  | 1 => k0_off6 c

theorem oOff_eq : ∀ (c : Dev nD) (h : Fin 2), oOff c h = ![512 * c.val, 512 * h.val] := by decide +kernel

theorem oInb (c : Dev nD) (h : Fin 2) : ∀ a, oOff c h a + S512x512.size a ≤ S4096x1024.size a := match h with
  | 0 => k0_off5_inb c
  | 1 => k0_off6_inb c

abbrev oRect (c : Dev nD) (h : Fin 2) : Rect S4096x1024 := Rect.unit (s := S4096x1024) (oOff c h) S512x512.size (oInb c h)

/-- Where the rows received into slot `j` go in the result, as printed. -/
abbrev gOff (c : Dev nD) (j : Fin 7) : Fin 2 → ℕ := k0_off7 c (BitVec.ofNat 32 (1 + j.val))
abbrev gRect (c : Dev nD) (j : Fin 7) : Rect S4096x1024 := Rect.unit (s := S4096x1024) (gOff c j) S512x1024.size (k0_off7_inb c j)

/-! ## The views and semaphores -/

abbrev wV (c : Dev nD) (s : Fin 8) (h : Fin 2) (q : Fin 4) : Memref sig .tc .hbm S1024x512 .f32 := wM.slice (wRect c s h q) (fun _ => rfl)
abbrev bV (h : Fin 2) (q : Fin 4) : Memref sig .tc .vmem S1024x512 .f32 :=
  (bM.slice (bRect h q) (fun _ => rfl) : Memref sig .tc .vmem S1x1024x512 .f32).squeeze S1024x512 squeezes_S1x1024x512_S1024x512
abbrev sV (j : Fin 7) (h : Fin 2) : Memref sig .tc .vmem S512x512 .bf16 :=
  (sM.slice (hRect j h) (fun _ => rfl) : Memref sig .tc .vmem S1x512x512 .bf16).squeeze S512x512 squeezes_S1x512x512_S512x512
abbrev rV (j : Fin 7) (h : Fin 2) : Memref sig .tc .vmem S512x512 .bf16 :=
  (rM.slice (hRect j h) (fun _ => rfl) : Memref sig .tc .vmem S1x512x512 .bf16).squeeze S512x512 squeezes_S1x512x512_S512x512

/-- The semaphore of the copy into quarter `q` of the buffer of half `h`. -/
abbrev wSem (h : Fin 2) (q : Fin 4) : DmaSem sig :=
  ((cc0_scratch3.slice (Rect.unit (s := S2x4) ![h.val, q.val] S1x1.size (qInb h q)) : DmaSems sig S1x1).squeeze S_ squeezes_S1x1_S_ : DmaSems sig S_).sem
/-- The send semaphore of half `h` of slot `j`. -/
abbrev sSem (j : Fin 7) (h : Fin 2) : DmaSem sig :=
  ((cc0_scratch4.slice (Rect.unit (s := S7x2) ![j.val, h.val] S1x1.size (jInb j h)) : DmaSems sig S1x1).squeeze S_ squeezes_S1x1_S_ : DmaSems sig S_).sem
/-- The receive semaphore of half `h` of slot `j`. -/
abbrev rSem (j : Fin 7) (h : Fin 2) : DmaSem sig :=
  ((cc0_scratch5.slice (Rect.unit (s := S7x2) ![j.val, h.val] S1x1.size (jInb j h)) : DmaSems sig S1x1).squeeze S_ squeezes_S1x1_S_ : DmaSems sig S_).sem
/-- The barrier semaphore. -/
abbrev barS : Sem sig := (SemArray.scalar (sig.barrier 0 rfl) : Sems sig S_).sem

theorem sExact (j : Fin 7) (h : Fin 2) : (sM.slice (hRect j h) (fun _ => rfl)).view.WordExact := by
  exact View.wordExact_slice_whole cc0_scratch1 rfl _ (by decide) rfl (by revert j h; decide +kernel) (by revert j h; decide +kernel)
theorem rExact (j : Fin 7) (h : Fin 2) : (rM.slice (hRect j h) (fun _ => rfl)).view.WordExact := by
  exact View.wordExact_slice_whole cc0_scratch2 rfl _ (by decide) rfl (by revert j h; decide +kernel) (by revert j h; decide +kernel)
theorem sStore (j : Fin 7) (h : Fin 2) : (sM.access (hRect j h)).StoreExact Finset.univ := by
  exact View.storeExact_slice_whole cc0_scratch1 rfl _ (by decide) rfl (by revert j h; decide +kernel) (by revert j h; decide +kernel)

/-! ## The values -/

/-- A block of `x` times a block of `w`, its negative entries replaced by zero. -/
abbrev relu (x : Vec F S512x4096 .f32) (w : Vec F S1x4096x512 .f32) : FVec F S512x512 .f32 := k0_pay1 x w
/-- The same rounded to bfloat16, as it is sent. -/
def reluB (x : Vec F S512x4096 .f32) (w : Vec F S1x4096x512 .f32) : FVec F S1x512x512 .bf16 :=
  shapeCast S1x512x512 (truncf .bf16 (relu x w) bitsLt_bf16_f32) shapeCasts_S512x512_S1x512x512
/-- A received slot as float32. -/
def wide (v : Vec F S1x512x1024 .bf16) : FVec F S512x1024 .f32 := k0_pay29 v

/-! ## The operations -/

/-- Start the copy of one quarter of a half block of `w`. -/
def copyW (c : Dev nD) (s : Fin 8) (h : Fin 2) (q : Fin 4) : Pr F :=
  Prog.lift (.enqueueDma (wV c s h q) (.here (bV h q)) (.dma (wSem h q)) (View.wordExact_bits rfl) ((View.wordExact_bits rfl).reshape _ _) ⟨Or.inl rfl, trivial⟩)
/-- Wait for it. -/
def waitW (c : Dev nD) (s : Fin 8) (h : Fin 2) (q : Fin 4) : Pr F :=
  Prog.lift (.waitDma2 (wSem h q) (wV c s h q) (bV h q) (View.wordExact_bits rfl) ((View.wordExact_bits rfl).reshape _ _))
/-- Start the copies of a half block of `w`. -/
def copies (c : Dev nD) (s : Fin 8) (h : Fin 2) : Pr F := forAll 4 fun q => copyW c s h q
/-- Wait for them. -/
def waits (c : Dev nD) (s : Fin 8) (h : Fin 2) : Pr F := forAll 4 fun q => waitW c s h q
/-- The copies of the next block's first half, if there is a next block. -/
def copiesNext (c : Dev nD) (s : Fin 8) : Pr F := if hs : s.val < 7 then copies c ⟨s.val + 1, by omega⟩ 0 else .ret ⟨⟩

/-- Signal device `p`'s barrier semaphore, unless `p` is the device itself. -/
def signal (c : Dev nD) (p : Fin 8) : Pr F := if p = c then .ret ⟨⟩ else semSignalWord (p : Dev nD) barS 1#32
/-- Signal the seven others and wait for their seven signals. -/
def handshake (c : Dev nD) : Pr F := forAll 8 (signal c) >>= fun _ => semWaitWord barS 7#32

/-- The device that slot `j` is sent to, as printed (one word per send). -/
def dest (c : Dev nD) (j : Fin 7) (h : Fin 2) : Dev nD := match j, h with
  | 0, 0 => ⟨k0_dev9 c, k0_dev9_lt c⟩ | 0, 1 => ⟨k0_dev10 c, k0_dev10_lt c⟩
  | 1, 0 => ⟨k0_dev11 c, k0_dev11_lt c⟩ | 1, 1 => ⟨k0_dev12 c, k0_dev12_lt c⟩
  | 2, 0 => ⟨k0_dev13 c, k0_dev13_lt c⟩ | 2, 1 => ⟨k0_dev14 c, k0_dev14_lt c⟩
  | 3, 0 => ⟨k0_dev15 c, k0_dev15_lt c⟩ | 3, 1 => ⟨k0_dev16 c, k0_dev16_lt c⟩
  | 4, 0 => ⟨k0_dev17 c, k0_dev17_lt c⟩ | 4, 1 => ⟨k0_dev18 c, k0_dev18_lt c⟩
  | 5, 0 => ⟨k0_dev19 c, k0_dev19_lt c⟩ | 5, 1 => ⟨k0_dev20 c, k0_dev20_lt c⟩
  | 6, 0 => ⟨k0_dev21 c, k0_dev21_lt c⟩ | 6, 1 => ⟨k0_dev22 c, k0_dev22_lt c⟩

/-- Load the device's rows of `x`. -/
def loadX : Prog (TpuEff nD τ sig (Elt F) Λ₀ .tc) (Vec F S512x4096 .f32) :=
  Prog.lift (.load xM (Rect.unit (s := S512x4096) ![0, 0] S512x4096.size inb_S512x4096_S512x4096_0_0).toLoadRect (View.loadsAt_vmem h_S512x4096))
/-- Load the buffer of half `h`. -/
def loadB (h : Fin 2) : Prog (TpuEff nD τ sig (Elt F) Λ₀ .tc) (Vec F S1x4096x512 .f32) :=
  Prog.lift (.load bM (bsRect h).toLoadRect (View.loadsAt_vmem h_S1x4096x512))

/-- The device's own block: multiply and store half `h` into the result. -/
def keep (c : Dev nD) (h : Fin 2) : Pr F :=
  loadX >>= fun x => loadB h >>= fun w =>
  Prog.lift (.load oM (oRect c h).toLoadRect (View.loadsAt_vmem h_S512x512)) >>= fun _ =>
  Prog.lift (.store oM (oRect c h) (relu x w) Finset.univ (View.stores_vmem_bits_univ h_S512x512 rfl) (.inl rfl))

/-- Another device's block: multiply, round, store half `h` into the send buffer and send it. -/
def send (c : Dev nD) (j : Fin 7) (h : Fin 2) : Pr F :=
  loadX >>= fun x => loadB h >>= fun w =>
  Prog.lift (.load sM (hRect j h).toLoadRect (View.loadsAt_vmem h_S1x512x512)) >>= fun _ =>
  Prog.lift (.store sM (hRect j h) (reluB x w) Finset.univ (View.stores_vmem h_S1x512x512 (sStore j h) (fun _ => rfl)) (.inl rfl)) >>= fun _ =>
  Prog.lift (.enqueueDma (sV j h) (.remote (Dev.tc (dest c j h)) (rV j h) (.dma (sSem j h))) (.dma (rSem j h)) ((sExact j h).reshape _ _) ((rExact j h).reshape _ _)
    ⟨⟨rfl, Or.inl rfl⟩, trivial⟩)

/-- The device's own block: both halves, the copies running one half ahead. -/
def ownBlock (c : Dev nD) : Pr F :=
  copies c 0 1 >>= fun _ => waits c 0 0 >>= fun _ => keep c 0 >>= fun _ =>
  copies c 1 0 >>= fun _ => waits c 0 1 >>= fun _ => keep c 1

/-- Another device's block: both halves, the copies running one half ahead. -/
def otherBlock (c : Dev nD) (j : Fin 7) : Pr F :=
  copies c j.succ 1 >>= fun _ => waits c j.succ 0 >>= fun _ => send c j 0 >>= fun _ =>
  copiesNext c j.succ >>= fun _ => waits c j.succ 1 >>= fun _ => send c j 1

/-- Wait for both halves of slot `j` and store it into the result as float32. -/
def receive (c : Dev nD) (j : Fin 7) : Pr F :=
  (forAll 2 fun h => Prog.lift (.waitDma2 (rSem j h) (sV j h) (rV j h) ((sExact j h).reshape _ _) ((rExact j h).reshape _ _))) >>= fun _ =>
  Prog.lift (.load rM (sRect j).toLoadRect (View.loadsAt_vmem h_S1x512x1024)) >>= fun v =>
  Prog.lift (.load oM (gRect c j).toLoadRect (View.loadsAt_vmem h_S512x1024)) >>= fun _ =>
  Prog.lift (.store oM (gRect c j) (wide v) Finset.univ (View.stores_vmem_bits_univ h_S512x1024 rfl) (.inl rfl))

/-- Wait until both halves of slot `j` have been sent. -/
def sent (j : Fin 7) : Pr F :=
  forAll 2 fun h => Prog.lift (.waitDma2 (sSem j h) (rV j h) (sV j h) ((rExact j h).reshape _ _) ((sExact j h).reshape _ _))

/-- The kernel of device `c`. -/
def program (c : Dev nD) : Pr F :=
  copies c 0 0 >>= fun _ => handshake c >>= fun _ => ownBlock c >>= fun _ => forAll 7 (otherBlock c) >>= fun _ =>
  forAll 7 (receive c) >>= fun _ => forAll 7 sent

/-- A program whose first step reads the device's number, and which then runs `K` at it, is known from `K` at each device. -/
theorem op_deviceId_eq {p : Pr F} (K K' : Dev nD → Pr F) (hp : p = Prog.op .deviceId K) (h : ∀ c, K c = K' c) : p = Prog.op .deviceId K' :=
  hp.trans (congrArg _ (funext h))

set_option maxRecDepth 65536 in
/-- The printed kernel reads its device's number and runs `program` at it. -/
theorem body_eq :
    cc0_body (F := F) xM (Memref.isWhole_whole _) wM (Memref.isWhole_whole _) oM (Memref.isWhole_whole _) bM (Memref.isWhole_whole _)
      sM (Memref.isWhole_whole _) rM (Memref.isWhole_whole _) cc0_scratch3 cc0_scratch4 cc0_scratch5
      = Prog.op .deviceId (fun c => program c) := by
  rw [cc0_body_eq_skeleton]
  refine op_deviceId_eq _ _ rfl fun c => ?_
  fin_cases c <;> (show (_ : Pr F) = _; chain_rfl)

end Cert.Exchange

end
-- ==== Proof.Geometry.lean ====
/-
  Where the kernel's rectangles lie: the place in its buffer of each entry of a view, and the set of places of each
  view, as conditions on coordinates. The weight buffer is the disjoint union of its two halves, each the disjoint union
  of four quarters; a send or receive buffer of seven slots, each of two halves.
-/
module

public import proofs.«01_k».proof.Proof.Steps
public import Idealize.ShloMosaic.Lib.ValueLayout

@[expose] public section

noncomputable section

namespace Cert.Exchange

open Cert.KernelIdeal Cert.KernelIdeal.Gen
open Idealize.ShloMosaic Idealize.ShloMosaic.TcCoe Idealize.SL.Sem
open Idealize.ShloMosaic.ValueIdx (ix2 ix3)

theorem idx2_ext {a b : ℕ} {x y : (⟨2, ![a, b]⟩ : Shape).Idx} (h0 : (x 0).val = (y 0).val) (h1 : (x 1).val = (y 1).val) : x = y := by
  funext k; match k with | ⟨0, _⟩ => exact Fin.ext h0 | ⟨1, _⟩ => exact Fin.ext h1
theorem idx3_ext' {a b d : ℕ} {x y : (⟨3, ![a, b, d]⟩ : Shape).Idx} (h0 : (x 0).val = (y 0).val) (h1 : (x 1).val = (y 1).val)
    (h2 : (x 2).val = (y 2).val) : x = y := by
  funext k; match k with | ⟨0, _⟩ => exact Fin.ext h0 | ⟨1, _⟩ => exact Fin.ext h1 | ⟨2, _⟩ => exact Fin.ext h2

/-! ## The place of each entry -/

section Places
variable (c : Dev nD) (s : Fin 8) (h : Fin 2) (q : Fin 4) (j : Fin 7)

theorem wV_emb0 (y : S1024x512.Idx) : ((wV c s h q).view.emb y 0).val = 1024 * q.val + (y 0).val := by
  show ((wRect c s h q).emb y 0).val = _
  rw [Rect.emb_apply]; show wOff c s h q 0 + 1 * (y 0).val = _; rw [wOff_eq]; simp
theorem wV_emb1 (y : S1024x512.Idx) : ((wV c s h q).view.emb y 1).val = 1024 * ((c.val + s.val) % 8) + 512 * h.val + (y 1).val := by
  show ((wRect c s h q).emb y 1).val = _
  rw [Rect.emb_apply]; show wOff c s h q 1 + 1 * (y 1).val = _; rw [wOff_eq]; simp

theorem bV_emb (y : S1024x512.Idx) : (bV h q).view.emb y = (bRect h q).emb (ix3 (⟨0, Nat.one_pos⟩ : Fin 1) (y 0) (y 1)) := by
  conv_lhs => rw [ValueIdx.eq_ix2 y]
  show (bRect h q).emb (Shape.reshapeEquiv _ (ix2 (y 0) (y 1))) = _
  exact congrArg _ (ValueIdx.reshapeEquiv_ix2_1ab _ (y 0) (y 1))
theorem bV_emb1 (y : S1024x512.Idx) : ((bV h q).view.emb y 1).val = 1024 * q.val + (y 0).val := by
  rw [bV_emb, Rect.emb_apply]; show 1024 * q.val + 1 * (y 0).val = _; rw [Nat.one_mul]
theorem bV_emb2 (y : S1024x512.Idx) : ((bV h q).view.emb y 2).val = (y 1).val := by
  rw [bV_emb, Rect.emb_apply]; show 0 + 1 * (y 1).val = _; omega

theorem bs_emb1 (y : S1x4096x512.Idx) : ((bsRect h).emb y 1).val = (y 1).val := by
  rw [Rect.emb_apply]; show 0 + 1 * (y 1).val = _; omega
theorem bs_emb2 (y : S1x4096x512.Idx) : ((bsRect h).emb y 2).val = (y 2).val := by
  rw [Rect.emb_apply]; show 0 + 1 * (y 2).val = _; omega

theorem h_emb0 (y : S1x512x512.Idx) : ((hRect j h).emb y 0).val = j.val := by
  rw [Rect.emb_apply]; show j.val + 1 * (y 0).val = _
  have : (y 0).val < 1 := (y 0).isLt
  omega
theorem h_emb1 (y : S1x512x512.Idx) : ((hRect j h).emb y 1).val = (y 1).val := by
  rw [Rect.emb_apply]; show 0 + 1 * (y 1).val = _; omega
theorem h_emb2 (y : S1x512x512.Idx) : ((hRect j h).emb y 2).val = 512 * h.val + (y 2).val := by
  rw [Rect.emb_apply]; show 512 * h.val + 1 * (y 2).val = _; omega

theorem s_emb0 (y : S1x512x1024.Idx) : ((sRect j).emb y 0).val = j.val := by
  rw [Rect.emb_apply]; show j.val + 1 * (y 0).val = _
  have : (y 0).val < 1 := (y 0).isLt
  omega
theorem s_emb1 (y : S1x512x1024.Idx) : ((sRect j).emb y 1).val = (y 1).val := by
  rw [Rect.emb_apply]; show 0 + 1 * (y 1).val = _; omega
theorem s_emb2 (y : S1x512x1024.Idx) : ((sRect j).emb y 2).val = (y 2).val := by
  rw [Rect.emb_apply]; show 0 + 1 * (y 2).val = _; omega

theorem o_emb0 (y : S512x512.Idx) : ((oRect c h).emb y 0).val = 512 * c.val + (y 0).val := by
  rw [Rect.emb_apply]; show oOff c h 0 + 1 * (y 0).val = _; rw [oOff_eq]; simp
theorem o_emb1 (y : S512x512.Idx) : ((oRect c h).emb y 1).val = 512 * h.val + (y 1).val := by
  rw [Rect.emb_apply]; show oOff c h 1 + 1 * (y 1).val = _; rw [oOff_eq]; simp

theorem gOff_eq : ∀ (c : Dev nD) (j : Fin 7), gOff c j = ![512 * ((c.val + 7 - j.val) % 8), 0] := by decide +kernel
theorem g_emb0 (y : S512x1024.Idx) : ((gRect c j).emb y 0).val = 512 * ((c.val + 7 - j.val) % 8) + (y 0).val := by
  rw [Rect.emb_apply]; show gOff c j 0 + 1 * (y 0).val = _; rw [gOff_eq]; simp
theorem g_emb1 (y : S512x1024.Idx) : ((gRect c j).emb y 1).val = (y 1).val := by
  rw [Rect.emb_apply]; show gOff c j 1 + 1 * (y 1).val = _; rw [gOff_eq]; simp

end Places

/-! ## The sets of places -/

/-- Half `h` of the weight buffer, quarter `q` of it, slot `j` of a send or receive buffer, half `h` of it. -/
def bsSet (h : Fin 2) : Finset S2x4096x512.Idx := Finset.univ.filter fun i => (i 0).val = h.val
def bSet (h : Fin 2) (q : Fin 4) : Finset S2x4096x512.Idx := Finset.univ.filter fun i => (i 0).val = h.val ∧ (i 1).val / 1024 = q.val
def sSet (j : Fin 7) : Finset S7x512x1024.Idx := Finset.univ.filter fun i => (i 0).val = j.val
def hSet (j : Fin 7) (h : Fin 2) : Finset S7x512x1024.Idx := Finset.univ.filter fun i => (i 0).val = j.val ∧ (i 2).val / 512 = h.val

section Sets
variable (c : Dev nD) (s : Fin 8) (h : Fin 2) (q : Fin 4) (j : Fin 7)

theorem bs_set : (bsRect h).set = bsSet h := by
  ext i
  rw [Rect.mem_set_unit, bsSet, Finset.mem_filter]
  have h1 : (i 1).val < 4096 := (i 1).isLt
  have h2 : (i 2).val < 512 := (i 2).isLt
  constructor
  · intro H; have : h.val ≤ (i 0).val ∧ (i 0).val < h.val + 1 := H 0
    exact ⟨Finset.mem_univ _, by omega⟩
  · rintro ⟨-, H⟩ a
    match a with
    | ⟨0, _⟩ => show h.val ≤ (i 0).val ∧ (i 0).val < h.val + 1; omega
    | ⟨1, _⟩ => show 0 ≤ (i 1).val ∧ (i 1).val < 0 + 4096; omega
    | ⟨2, _⟩ => show 0 ≤ (i 2).val ∧ (i 2).val < 0 + 512; omega

theorem b_set : (bV h q).view.set = bSet h q := by
  refine (View.set_reshape _ _).trans ((View.set_slice_whole cc0_scratch0 (bRect h q)).trans ?_)
  ext i
  refine (Rect.mem_set_unit (s := S2x4096x512)).trans ?_
  rw [bSet, Finset.mem_filter]
  have h2 : (i 2).val < 512 := (i 2).isLt
  constructor
  · intro H; have h0 : h.val ≤ (i 0).val ∧ (i 0).val < h.val + 1 := H 0
    have h1 : 1024 * q.val ≤ (i 1).val ∧ (i 1).val < 1024 * q.val + 1024 := H 1
    exact ⟨Finset.mem_univ _, by omega, by omega⟩
  · rintro ⟨-, H, H'⟩ a
    match a with
    | ⟨0, _⟩ => show h.val ≤ (i 0).val ∧ (i 0).val < h.val + 1; omega
    | ⟨1, _⟩ => show 1024 * q.val ≤ (i 1).val ∧ (i 1).val < 1024 * q.val + 1024; omega
    | ⟨2, _⟩ => show 0 ≤ (i 2).val ∧ (i 2).val < 0 + 512; omega

theorem h_set : (hRect j h).set = hSet j h := by
  ext i
  rw [Rect.mem_set_unit, hSet, Finset.mem_filter]
  have h1 : (i 1).val < 512 := (i 1).isLt
  constructor
  · intro H; have h0 : j.val ≤ (i 0).val ∧ (i 0).val < j.val + 1 := H 0
    have h2 : 512 * h.val ≤ (i 2).val ∧ (i 2).val < 512 * h.val + 512 := H 2
    exact ⟨Finset.mem_univ _, by omega, by omega⟩
  · rintro ⟨-, H, H'⟩ a
    match a with
    | ⟨0, _⟩ => show j.val ≤ (i 0).val ∧ (i 0).val < j.val + 1; omega
    | ⟨1, _⟩ => show 0 ≤ (i 1).val ∧ (i 1).val < 0 + 512; omega
    | ⟨2, _⟩ => show 512 * h.val ≤ (i 2).val ∧ (i 2).val < 512 * h.val + 512; omega

theorem s_set : (sRect j).set = sSet j := by
  ext i
  rw [Rect.mem_set_unit, sSet, Finset.mem_filter]
  have h1 : (i 1).val < 512 := (i 1).isLt
  have h2 : (i 2).val < 1024 := (i 2).isLt
  constructor
  · intro H; have h0 : j.val ≤ (i 0).val ∧ (i 0).val < j.val + 1 := H 0
    exact ⟨Finset.mem_univ _, by omega⟩
  · rintro ⟨-, H⟩ a
    match a with
    | ⟨0, _⟩ => show j.val ≤ (i 0).val ∧ (i 0).val < j.val + 1; omega
    | ⟨1, _⟩ => show 0 ≤ (i 1).val ∧ (i 1).val < 0 + 512; omega
    | ⟨2, _⟩ => show 0 ≤ (i 2).val ∧ (i 2).val < 0 + 1024; omega

theorem sV_set : (sV j h).view.set = hSet j h :=
  (View.set_reshape _ _).trans ((View.set_slice_whole cc0_scratch1 (hRect j h)).trans (h_set h j))
theorem rV_set : (rV j h).view.set = hSet j h :=
  (View.set_reshape _ _).trans ((View.set_slice_whole cc0_scratch2 (hRect j h)).trans (h_set h j))

/-- The four quarters of a half of the weight buffer; -/
theorem bs_union : bsSet h = Finset.univ.biUnion (bSet h) := by
  ext i
  simp only [bsSet, bSet, Finset.mem_filter, Finset.mem_biUnion, Finset.mem_univ, true_and]
  have h1 : (i 1).val < 4096 := (i 1).isLt
  exact ⟨fun H => ⟨⟨(i 1).val / 1024, by omega⟩, H, rfl⟩, fun ⟨q, H, _⟩ => H⟩
theorem b_disj (q q' : Fin 4) (hq : q ≠ q') : Disjoint (bSet h q) (bSet h q') := by
  rw [Finset.disjoint_left]; intro i hi hi'
  simp only [bSet, Finset.mem_filter, Finset.mem_univ, true_and] at hi hi'
  exact hq (Fin.ext (hi.2.symm.trans hi'.2))
/-- its two halves; -/
theorem b_univ : (Finset.univ : Finset S2x4096x512.Idx) = Finset.univ.biUnion bsSet := by
  ext i
  simp only [bsSet, Finset.mem_filter, Finset.mem_biUnion, Finset.mem_univ, true_and, true_iff]
  exact ⟨(i 0), rfl⟩
theorem bs_disj (h h' : Fin 2) (hh : h ≠ h') : Disjoint (bsSet h) (bsSet h') := by
  rw [Finset.disjoint_left]; intro i hi hi'
  simp only [bsSet, Finset.mem_filter, Finset.mem_univ, true_and] at hi hi'
  exact hh (Fin.ext (hi.symm.trans hi'))
/-- the two halves of a slot; -/
theorem s_union : sSet j = Finset.univ.biUnion (hSet j) := by
  ext i
  simp only [sSet, hSet, Finset.mem_filter, Finset.mem_biUnion, Finset.mem_univ, true_and]
  have h2 : (i 2).val < 1024 := (i 2).isLt
  exact ⟨fun H => ⟨⟨(i 2).val / 512, by omega⟩, H, rfl⟩, fun ⟨q, H, _⟩ => H⟩
theorem h_disj (h h' : Fin 2) (hh : h ≠ h') : Disjoint (hSet j h) (hSet j h') := by
  rw [Finset.disjoint_left]; intro i hi hi'
  simp only [hSet, Finset.mem_filter, Finset.mem_univ, true_and] at hi hi'
  exact hh (Fin.ext (hi.2.symm.trans hi'.2))
/-- the seven slots. -/
theorem s_univ : (Finset.univ : Finset S7x512x1024.Idx) = Finset.univ.biUnion sSet := by
  ext i
  simp only [sSet, Finset.mem_filter, Finset.mem_biUnion, Finset.mem_univ, true_and, true_iff]
  exact ⟨(i 0), rfl⟩
theorem s_disj (j j' : Fin 7) (hj : j ≠ j') : Disjoint (sSet j) (sSet j') := by
  rw [Finset.disjoint_left]; intro i hi hi'
  simp only [sSet, Finset.mem_filter, Finset.mem_univ, true_and] at hi hi'
  exact hj (Fin.ext (hi.symm.trans hi'))

end Sets

end Cert.Exchange

end
-- ==== Proof.Schedule.lean ====
/-
  What the devices promise each other. Each device's barrier semaphore has seven duties of one unit: by the `j`-th the
  device after it at distance `j + 1` lends it slot `j` of its receive buffer. Each half slot has a send and a receive
  semaphore with one duty, the bytes of a half slot: by the first the sender has its half slot back, by the second the
  receiver has its half slot filled. The contents are named here too: what each device copies, multiplies, sends,
  receives and returns.
-/
module

public import proofs.«01_k».proof.Proof.Geometry
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## The resource algebra: the pipeline's rounds, the exchange's rounds, the local copies' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds in the algebra. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters in the algebra. -/
abbrev EC : UEmb Counters (MT nD τ sig Unit (Elt F) ℕ UU ℕ) := countersEmb

variable (m : (ℓ : Loc nD τ sig) → Buf (Elt F) ℓ)

/-! ## The devices around a device -/

set_option backward.proofsInPublic true in
/-- The device that slot `j` is sent to, -/
def nxt (c : Dev nD) (j : Fin 7) : Dev nD := ⟨(c.val + j.val + 1) % 8, Nat.mod_lt _ (by decide)⟩
set_option backward.proofsInPublic true in
/-- and the one slot `j` is received from. -/
def prv (c : Dev nD) (j : Fin 7) : Dev nD := ⟨(c.val + 7 - j.val) % 8, Nat.mod_lt _ (by decide)⟩

theorem prv_nxt : ∀ (c : Dev nD) (j : Fin 7), prv (nxt c j) j = c := by decide +kernel
theorem nxt_prv : ∀ (c : Dev nD) (j : Fin 7), nxt (prv c j) j = c := by decide +kernel
theorem prv_inj : ∀ c : Dev nD, Function.Injective (prv c) := by decide +kernel
theorem prv_ne : ∀ (c : Dev nD) (j : Fin 7), prv c j ≠ c := by decide +kernel
theorem others_eq : ∀ c : Dev nD, (Finset.univ.erase c : Finset (Dev nD)) = Finset.univ.map ⟨prv c, prv_inj c⟩ := by decide +kernel
theorem dest_eq : ∀ (c : Dev nD) (j : Fin 7) (h : Fin 2), dest c j h = nxt c j := by decide +kernel

/-! ## The cells -/

/-- A device's semaphores of the exchange: its barrier's, its send semaphores (`false`), its receive semaphores (`true`). -/
abbrev Ck : Type := Option (Bool × Fin 7 × Fin 2)
/-- The semaphore each names. -/
abbrev csem : Ck → SemLoc sig := fun
  | none => .reg barS
  | some (false, j, h) => .dma (sSem j h)
  | some (true, j, h) => .dma (rSem j h)

theorem csem_inj : Function.Injective csem := by decide +kernel

abbrev barCell (c : Dev nD) : GSem nD τ sig := ((c : Thread nD τ), .reg barS)
abbrev sendCell (c : Dev nD) (j : Fin 7) (h : Fin 2) : GSem nD τ sig := ((c : Thread nD τ), .dma (sSem j h))
abbrev recvCell (c : Dev nD) (j : Fin 7) (h : Fin 2) : GSem nD τ sig := ((c : Thread nD τ), .dma (rSem j h))
abbrev kcell (ck : Dev nD × Ck) : GSem nD τ sig := ((ck.1 : Thread nD τ), csem ck.2)

theorem kcell_inj : Function.Injective (kcell : Dev nD × Ck → GSem nD τ sig) := by
  rintro ⟨c, k⟩ ⟨c', k'⟩ h
  have h1 : c = c' := congrArg (fun g : GSem nD τ sig => g.1.1) h
  have h2 : csem k = csem k' := congrArg Prod.snd h
  rw [h1, csem_inj h2]

/-- Which of the exchange's semaphores a semaphore is, if any. -/
def what (sm : SemLoc sig) : Option Ck := Function.partialInv csem sm
theorem what_csem (k : Ck) : what (csem k) = some k := Function.partialInv_left csem_inj k
theorem what_bar : what (.reg barS) = some none := what_csem none
theorem what_send (j : Fin 7) (h : Fin 2) : what (.dma (sSem j h)) = some (some (false, j, h)) := what_csem (some (false, j, h))
theorem what_recv (j : Fin 7) (h : Fin 2) : what (.dma (rSem j h)) = some (some (true, j, h)) := what_csem (some (true, j, h))
theorem what_none {sm : SemLoc sig} (hn : ∀ k, csem k ≠ sm) : what sm = none := by
  unfold what Function.partialInv
  rw [dif_neg fun ⟨k, hk⟩ => hn k hk]

/-- The bytes of half a slot. -/
abbrev N : ℕ := (rV 0 0).view.dmaCredit
theorem N_pos : 0 < N := View.dmaCredit_pos _ (by decide)

/-! ## The contents -/

/-- Device `c`'s rows of `x`, -/
def xstg (c : Dev nD) : (cc0_stg0_0 : Ref sig .tc).ty.Contents (Elt F) :=
  (win0_0.blk (0 : Fin 1)).view.read (Elt F) (m ((c : Thread nD τ).loc main_arg0))
/-- its copy of `w`, -/
def wAt (c : Dev nD) : Buf (Elt F) ((c : Thread nD τ).loc main_arg1) := m ((c : Thread nD τ).loc main_arg1)
/-- an entry of half `h` of the columns of device `c + s` in it, -/
def wcol (c : Dev nD) (s : Fin 8) (h : Fin 2) (r : Fin 4096) (k : Fin 512) : Elt F .f32 :=
  wAt m c (ix2 r (⟨1024 * ((c.val + s.val) % 8) + 512 * h.val + k.val, by omega⟩ : Fin 8192))
/-- those columns as they are loaded, -/
def blk (c : Dev nD) (s : Fin 8) (h : Fin 2) : Vec F S1x4096x512 .f32 := fun y => wcol m c s h (y 1) (y 2)
/-- and as they lie in the weight buffer. -/
def fW (c : Dev nD) (s : Fin 8) (h : Fin 2) : Buf (Elt F) ((c : Thread nD τ).loc cc0_scratch0) := fun i => wcol m c s h (i 1) (i 2)

/-- The product of the device's rows and those columns, -/
def prod (c : Dev nD) (s : Fin 8) (h : Fin 2) : FVec F S512x512 .f32 := relu (xstg m c) (blk m c s h)
/-- as it is sent, -/
def prodB (c : Dev nD) (j : Fin 7) (h : Fin 2) : FVec F S1x512x512 .bf16 := reluB (xstg m c) (blk m c j.succ h)
/-- as the products to send lie in the send buffer, -/
def fS (c : Dev nD) : Buf (Elt F) ((c : Thread nD τ).loc cc0_scratch1) := fun i =>
  prodB m c (i 0) (⟨(i 2).val / 512, by have : (i 2).val < 1024 := (i 2).isLt; omega⟩ : Fin 2)
    (ix3 (⟨0, Nat.one_pos⟩ : Fin 1) (i 1) (⟨(i 2).val % 512, Nat.mod_lt _ (by decide)⟩ : Fin 512))
/-- and as those received lie in the receive buffer: slot `j` is what the device `j + 1` before it sent. -/
def fR (c : Dev nD) : Buf (Elt F) ((c : Thread nD τ).loc cc0_scratch2) := fun i => fS m (prv c (i 0)) i
/-- Slot `j` as it is loaded. -/
def got (c : Dev nD) (j : Fin 7) : Vec F S1x512x1024 .bf16 := fun y => fR m c (ix3 j (y 1) (y 2))

/-- The device's result: its own rows of `x` give the rows at its number, device `d`'s the rows at `d`. -/
def outAt (c : Dev nD) : (cc0_stg1_0 : Ref sig .tc).ty.Contents (Elt F) := fun i =>
  if hc : (i 0).val / 512 = c.val then
    prod m c 0 (⟨(i 1).val / 512, by have : (i 1).val < 1024 := (i 1).isLt; omega⟩ : Fin 2)
      (ix2 (⟨(i 0).val % 512, Nat.mod_lt _ (by decide)⟩ : Fin 512) (⟨(i 1).val % 512, Nat.mod_lt _ (by decide)⟩ : Fin 512))
  else
    wide (got m c (⟨(c.val + 7 - (i 0).val / 512) % 8, by
        have h0 : (i 0).val < 4096 := (i 0).isLt
        have h1 : c.val < 8 := c.isLt
        omega⟩ : Fin 7))
      (ix2 (⟨(i 0).val % 512, Nat.mod_lt _ (by decide)⟩ : Fin 512) (i 1))

/-! ## The schedule -/

/-- The buffers of one device held at a set of places. -/
abbrev bPts (c : Dev nD) (S : Finset S2x4096x512.Idx) (f : Buf (Elt F) ((c : Thread nD τ).loc cc0_scratch0)) : sProp 𝕄 :=
  iprop(((c : Thread nD τ).loc cc0_scratch0) ↦[S]{fullShare} f)
abbrev sPts (c : Dev nD) (S : Finset S7x512x1024.Idx) (f : Buf (Elt F) ((c : Thread nD τ).loc cc0_scratch1)) : sProp 𝕄 :=
  iprop(((c : Thread nD τ).loc cc0_scratch1) ↦[S]{fullShare} f)
abbrev rPts (c : Dev nD) (S : Finset S7x512x1024.Idx) (f : Buf (Elt F) ((c : Thread nD τ).loc cc0_scratch2)) : sProp 𝕄 :=
  iprop(((c : Thread nD τ).loc cc0_scratch2) ↦[S]{fullShare} f)

/-- What each duty hands over. -/
def pay (c : Dev nD) : Ck → Fin 7 → sProp 𝕄
  | none, j => iprop(∃ f, rPts (nxt c j) (sSet j) f)
  | some (false, j, h), _ => sPts c (hSet j h) (fS m c)
  | some (true, j, h), _ => rPts c (hSet j h) (fR m c)
/-- The duties of each semaphore, -/
def dutiesOf : Ck → Finset (Fin 7)
  | none => Finset.univ
  | some _ => {0}
/-- and their amount. -/
def amountOf : Option Ck → ℕ
  | some none => 1
  | _ => N

/-- One round, round 0. -/
def rd : Rounds.Schedule (GSem nD τ sig) (Fin 7) 𝕄 where
  duties g r := if r = 0 ∧ g.1.2 = .tc then (what g.2).elim ∅ dutiesOf else ∅
  unitless _ := False
  amount g _ _ := amountOf (what g.2)
  payload g _ d := (what g.2).elim iprop(emp) fun k => pay m g.1.1 k d
  amount_pos g _ _ _ := by
    unfold amountOf; split
    · exact Nat.one_pos
    · exact N_pos

instance pay_storable (c : Dev nD) (k : Ck) (d : Fin 7) : BI.Storable (upEmb : UEmb _ 𝕄) (pay m c k d) := by
  unfold pay; split <;> infer_instance
instance rd_storable (g : GSem nD τ sig) (r : ℕ) (d : Fin 7) : BI.Storable (upEmb : UEmb _ 𝕄) ((rd (F := F) m).payload g r d) := by
  show BI.Storable upEmb ((what g.2).elim iprop(emp) fun k => pay m g.1.1 k d)
  cases what g.2 with
  | none => exact (inferInstance : BI.Storable upEmb (iprop(emp) : sProp 𝕄))
  | some k => exact pay_storable m g.1.1 k d

section Sched
variable (c : Dev nD) (j : Fin 7) (h : Fin 2)

theorem duties_kcell (k : Ck) : (rd (F := F) m).duties (kcell (c, k)) 0 = dutiesOf k := by
  dsimp only [rd]; rw [if_pos ⟨rfl, rfl⟩, what_csem]; rfl
theorem duties_bar : (rd (F := F) m).duties (barCell c) 0 = Finset.univ := duties_kcell m c none
theorem duties_send : (rd (F := F) m).duties (sendCell c j h) 0 = {0} := duties_kcell m c (some (false, j, h))
theorem duties_recv : (rd (F := F) m).duties (recvCell c j h) 0 = {0} := duties_kcell m c (some (true, j, h))
theorem duties_later (g : GSem nD τ sig) : ∀ r, 1 ≤ r → (rd (F := F) m).duties g r = ∅ :=
  fun r hr => by dsimp only [rd]; rw [if_neg fun h => by omega]

theorem amount_bar (d : Fin 7) : (rd (F := F) m).amount (barCell c) 0 d = 1 := by dsimp only [rd]; rw [what_bar]; rfl
theorem amount_send (d : Fin 7) : (rd (F := F) m).amount (sendCell c j h) 0 d = N := by dsimp only [rd]; rw [what_send]; rfl
theorem amount_recv (d : Fin 7) : (rd (F := F) m).amount (recvCell c j h) 0 d = N := by dsimp only [rd]; rw [what_recv]; rfl

theorem expect_bar : (rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell c j h) 0 = N := by
  unfold Schedule.expect Schedule.amountOf; rw [duties_send, Finset.sum_singleton, amount_send]
theorem expect_recv : (rd (F := F) m).expect (recvCell c j h) 0 = N := by
  unfold Schedule.expect Schedule.amountOf; rw [duties_recv, Finset.sum_singleton, amount_recv]

theorem payload_bar (d : Fin 7) : (rd (F := F) m).payload (barCell c) 0 d = iprop(∃ f, rPts (nxt c d) (sSet d) f) := by
  dsimp only [rd]; rw [what_bar]; rfl
theorem payload_send (d : Fin 7) : (rd (F := F) m).payload (sendCell c j h) 0 d = sPts c (hSet j h) (fS m c) := by
  dsimp only [rd]; rw [what_send]; rfl
theorem payload_recv (d : Fin 7) : (rd (F := F) m).payload (recvCell c j h) 0 d = rPts c (hSet j h) (fR m c) := by
  dsimp only [rd]; rw [what_recv]; rfl

/-- What a whole round hands over. -/
theorem rest_bar : bigSep ((rd (F := F) m).duties (barCell c) 0 \ ∅) (fun d => (rd (F := F) m).payload (barCell c) 0 d)
    = bigSep Finset.univ fun j : Fin 7 => iprop(∃ f, rPts (nxt c j) (sSet j) f) := by
  rw [Finset.sdiff_empty, duties_bar]; exact bigSep_congr fun d _ => payload_bar m c d
theorem rest_send : bigSep ((rd (F := F) m).duties (sendCell c j h) 0 \ ∅) (fun d => (rd (F := F) m).payload (sendCell c j h) 0 d)
    = sPts c (hSet j h) (fS m c) := by
  rw [Finset.sdiff_empty, duties_send, bigSep_singleton, payload_send]
theorem rest_recv : bigSep ((rd (F := F) m).duties (recvCell c j h) 0 \ ∅) (fun d => (rd (F := F) m).payload (recvCell c j h) 0 d)
    = rPts c (hSet j h) (fR m c) := by
  rw [Finset.sdiff_empty, duties_recv, bigSep_singleton, payload_recv]

end Sched

/-! ## What each device owes; the levels -/

/-- The sum of a list of debts from the `k`-th on. -/
def owing {n : ℕ} (f : Fin n → CellTallies nD τ sig Unit) (k : ℕ) : CellTallies nD τ sig Unit := ∑ i ∈ Finset.univ.filter (fun i : Fin n => k ≤ i.val), f i

theorem owing_zero {n : ℕ} (f : Fin n → CellTallies nD τ sig Unit) : owing f 0 = ∑ i, f i := by
  unfold owing; rw [Finset.filter_true_of_mem fun i _ => Nat.zero_le _]
theorem owing_end {n : ℕ} (f : Fin n → CellTallies nD τ sig Unit) : owing f n = 0 := by
  unfold owing; rw [Finset.filter_false_of_mem fun i _ => Nat.not_le.mpr i.isLt, Finset.sum_empty]
theorem owing_step {n : ℕ} (f : Fin n → CellTallies nD τ sig Unit) (i : Fin n) : owing f i.val = owing f (i.val + 1) + f i := by
  unfold owing
  rw [show Finset.univ.filter (fun k : Fin n => i.val ≤ k.val) = insert i (Finset.univ.filter fun k : Fin n => i.val + 1 ≤ k.val) from by
    ext k; simp only [Finset.mem_filter, Finset.mem_insert, Finset.mem_univ, true_and, Fin.ext_iff]; omega,
    Finset.sum_insert (by simp), add_comm]

/-- A unit to every other device's barrier, -/
def owedBar (c : Dev nD) (p : Fin 8) : CellTallies nD τ sig Unit := if p = c then 0 else tallyAt (barCell p) () 1
/-- and the two halves of slot `j` to the device it is sent to. -/
def owedSlot (c : Dev nD) (j : Fin 7) : CellTallies nD τ sig Unit := tallyAt (recvCell (nxt c j) j 1) () N + tallyAt (recvCell (nxt c j) j 0) () N
def O₀ (c : Dev nD) : CellTallies nD τ sig Unit := owing (owedSlot c) 0 + owing (owedBar c) 0

def L (g : GSem nD τ sig) : Finset Unit := if g.1.2 = .tc then {()} else ∅
/-- The barriers are at level 1, the receive semaphores at 2, all others at 0: a device waits below all it owes. -/
def lv (g : GSem nD τ sig) (_ : Unit) : ℕ := match what g.2 with
  | some none => 1
  | some (some (true, _, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [what_bar]
theorem lv_recv (c : Dev nD) (j : Fin 7) (h : Fin 2) : lv (recvCell c j h) () = 2 := by unfold lv; rw [what_recv]

/-- All that is owed is owed to TensorCores and lies above level `k`. -/
def Above (k : ℕ) (O : CellTallies nD τ sig Unit) : Prop := ∀ g u, 0 < O g u → g.1.2 = .tc ∧ k < lv g u

theorem above_zero (k : ℕ) : Above k 0 := fun g u h => absurd h (Nat.lt_irrefl 0)
theorem above_add {k : ℕ} {O O' : CellTallies nD τ sig Unit} (h : Above k O) (h' : Above k O') : Above k (O + O') := fun g u hp => by
  rw [Pi.add_apply, Finsupp.add_apply] at hp
  rcases Nat.eq_zero_or_pos (O g u) with h0 | h0
  · exact h' g u (by omega)
  · exact h g u h0
theorem above_tally {k : ℕ} (c : Dev nD) (sm : SemLoc sig) (n : ℕ) (hk : k < lv ((c : Thread nD τ), sm) ()) :
    Above k (tallyAt ((c : Thread nD τ), sm) () n) := fun g u hp => by
  rw [tallyAt_apply] at hp
  by_cases hg : g = ((c : Thread nD τ), sm) ∧ u = ()
  · rw [hg.1]; exact ⟨rfl, hk⟩
  · rw [if_neg hg] at hp; exact absurd hp (Nat.lt_irrefl 0)
theorem above_owing {k n : ℕ} (f : Fin n → CellTallies nD τ sig Unit) (hf : ∀ i, Above k (f i)) (a : ℕ) : Above k (owing f a) := by
  unfold owing
  exact Finset.sum_induction _ (Above k) (fun _ _ => above_add) (above_zero k) fun i _ => hf i
theorem above_slot (k : ℕ) (hk : k < 2) (c : Dev nD) (j : Fin 7) : Above k (owedSlot c j) :=
  above_add (above_tally _ _ _ (by rw [lv_recv]; exact hk)) (above_tally _ _ _ (by rw [lv_recv]; exact hk))
theorem above_bar (c : Dev nD) (p : Fin 8) : Above 0 (owedBar c p) := by
  unfold owedBar; split
  · exact above_zero 0
  · exact above_tally _ _ _ (by rw [lv_bar]; exact Nat.one_pos)
theorem above_O₀ (c : Dev nD) : Above 0 (O₀ c) :=
  above_add (above_owing _ (above_slot 0 (by decide) c) 0) (above_owing _ (above_bar c) 0)

/-- A device may wait on a semaphore below all it owes. -/
theorem mayWait (c : Dev nD) (sm : SemLoc sig) {k : ℕ} (hk : lv ((c : Thread nD τ), sm) () ≤ k) {O : CellTallies nD τ sig Unit} (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk)
    (fun g u hg => (hO g u hg).2)

end Cert.Exchange

end
-- ==== Proof.Chunks.lean ====
/-
  The kernel's steps before and between its messages: how programs in sequence and in a counted row are run, the local
  copies of the weights' columns, and the device's own two products.
-/
module

public import proofs.«01_k».proof.Proof.Schedule

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx (ix2 ix3)

variable {F : FTy → Type} [FloatOps F]

local notation "𝕄" => MT nD τ sig Unit (Elt F) ℕ UU ℕ

abbrev 𝒱₀ : Variants := Variants.none

/-! ## Running programs in order -/

/-- What must hold for device `c` to run `p` to `R`. -/
abbrev run (c : Dev nD) (p : Pr F) (R : sProp 𝕄) : sProp 𝕄 := wp frame (wpE (defs₀ (F := F)) 𝒱₀ (c : Thread nD τ) none) Set.univ p (fun _ => R)

section Order
variable (c : Dev nD)

theorem run_done {P : sProp 𝕄} : P ⊢ run c (.ret ⟨⟩) P := le_wp_ret _ _ _ _ (fun _ => P)

theorem run_seq {P R Q : sProp 𝕄} {p : Pr F} {k : PUnit → Pr F} (hp : P ⊢ run c p R) (hk : R ⊢ run c (k ⟨⟩) Q) : P ⊢ run c (p >>= k) Q := by
  unfold run; rw [wp_bind]; exact hp.trans (wp_mono _ _ _ fun _ => hk)

theorem run_frame {P R X : sProp 𝕄} {p : Pr F} (hp : P ⊢ run c p R) : iprop(P ∗ X) ⊢ run c p iprop(R ∗ X) :=
  (sep_mono_left hp).trans (wp_frame_r _ _ _)

/-- A step of a sequence that uses a part of what is held. -/
theorem run_step {P R X Q : sProp 𝕄} {p : Pr F} {k : PUnit → Pr F} (hp : P ⊢ run c p R) (hk : iprop(R ∗ X) ⊢ run c (k ⟨⟩) Q) :
    iprop(P ∗ X) ⊢ run c (p >>= k) Q := run_seq c (run_frame c hp) hk

theorem run_post {P R R' : sProp 𝕄} {p : Pr F} (hp : P ⊢ run c p R) (h : R ⊢ R') : P ⊢ run c p R' :=
  hp.trans (wp_mono _ _ _ fun _ => h)

theorem bigSep_fin_succ {n : ℕ} (Φ : Fin (n + 1) → sProp 𝕄) : bigSep Finset.univ Φ = iprop(Φ 0 ∗ bigSep Finset.univ fun i : Fin n => Φ i.succ) := by
  rw [BI.bigSep_erase (Finset.mem_univ (0 : Fin (n + 1))), show (Finset.univ.erase (0 : Fin (n + 1))) = Finset.univ.map (Fin.succEmb n) from by
    ext i; simp only [Finset.mem_erase, Finset.mem_univ, and_true, Finset.mem_map, true_and]
    exact Fin.exists_succ_eq.symm, BI.bigSep_map]
  rfl

/-- A counted row of programs: each takes its own share `T i` of what is held and leaves `D i`. -/
theorem run_forAll {n : ℕ} (f : Fin n → Pr F) (A : ℕ → sProp 𝕄) (T D : Fin n → sProp 𝕄)
    (h : ∀ i, iprop(A i.val ∗ T i) ⊢ run c (f i) iprop(A (i.val + 1) ∗ D i)) :
    iprop(A 0 ∗ bigSep Finset.univ T) ⊢ run c (forAll n f) iprop(A n ∗ bigSep Finset.univ D) := by
  induction n generalizing A with
  | zero =>
    refine BIBase.Entails.trans (Entails.of_eq ?_) (run_done c)
    rw [Finset.univ_eq_empty, BI.bigSep_empty, BI.bigSep_empty]
  | succ n ih =>
    rw [bigSep_fin_succ T, bigSep_fin_succ D]
    have h0 : iprop(A 0 ∗ T 0) ⊢ run c (f 0) iprop(A 1 ∗ D 0) := h 0
    refine BIBase.Entails.trans ?_ (run_step c h0 (X := bigSep Finset.univ fun i : Fin n => T i.succ) ?_)
    · iintro ⟨HA, HT, HX⟩
      isplitl [HA HT]
      · isplitl [HA] <;> iassumption
      iexact HX
    · have : iprop((A 1 ∗ bigSep Finset.univ fun i : Fin n => T i.succ) ∗ D 0)
          ⊢ run c (forAll n fun i => f i.succ) iprop((A (n + 1) ∗ bigSep Finset.univ fun i : Fin n => D i.succ) ∗ D 0) := run_frame c (X := D 0) (ih (fun i => f i.succ) (fun k => A (k + 1)) (fun i => T i.succ) (fun i => D i.succ) (fun i => h i.succ))
      refine BIBase.Entails.trans ?_ (run_post c this ?_)
      · iintro ⟨⟨HA, HD⟩, HT⟩
        isplitl [HA HT]
        · isplitl [HA]; · iexact HA
          iexact HT
        iexact HD
      · iintro ⟨⟨HA, HT⟩, HD⟩
        isplitl [HA]; · iexact HA
        isplitl [HD] <;> iassumption

end Order

variable (m : (ℓ : Loc nD τ sig) → Buf (Elt F) ℓ)

/-- Device `c` owes `O`. -/
def ow (c : Dev nD) (O : CellTallies nD τ sig Unit) : sProp 𝕄 := iprop(∃ W, owes (c : Thread nD τ) O W)

/-! ## The local copies -/

/-- The bytes of a quarter. -/
abbrev M : ℕ := (bV 0 0).view.dmaCredit
theorem M_pos : 0 < M := View.dmaCredit_pos _ (by decide)

/-- The share of `w` that the copies into quarter `q` of half `h` read at. -/
def shr (h : Fin 2) (q : Fin 4) : PosShare TreeShare := shareTok fullShare 8 ⟨4 * h.val + q.val, by omega⟩
/-- The device's `w` at a set of places, at that share. -/
abbrev wPts (c : Dev nD) (S : Finset S4096x8192.Idx) (h : Fin 2) (q : Fin 4) : sProp 𝕄 :=
  iprop(((c : Thread nD τ).loc main_arg1) ↦[S]{shr h q} wAt m c)

/-- What a quarter's copy needs beside its destination, -/
def idleQ (c : Dev nD) (h : Fin 2) (q : Fin 4) : sProp 𝕄 := iprop(wPts m c Finset.univ h q ∗ semVal ((c : Thread nD τ), .dma (wSem h q)) 0)
/-- and the copy under way. -/
def flyQ (c : Dev nD) (s : Fin 8) (h : Fin 2) (q : Fin 4) : sProp 𝕄 :=
  iprop(Flight EC (c : Thread nD τ) (.dma (wSem h q)) () M iprop(bPts c (bSet h q) (fW m c s h) ∗ wPts m c (wV c s h q).view.set h q)
    ∗ wPts m c (Finset.univ \ (wV c s h q).view.set) h q)

/-- Half `h` of the weight buffer unused; -/
def Idle (c : Dev nD) (h : Fin 2) : sProp 𝕄 := iprop((∃ f, bPts c (bsSet h) f) ∗ bigSep Finset.univ (idleQ m c h))
/-- the columns of device `c + s` on their way into it; -/
def Fly (c : Dev nD) (s : Fin 8) (h : Fin 2) : sProp 𝕄 := bigSep Finset.univ (flyQ m c s h)
/-- and those columns in it. -/
def Ready (c : Dev nD) (s : Fin 8) (h : Fin 2) : sProp 𝕄 := iprop(bPts c (bsSet h) (fW m c s h) ∗ bigSep Finset.univ (idleQ m c h))

theorem ready_idle (c : Dev nD) (s : Fin 8) (h : Fin 2) : Ready m c s h ⊢ Idle m c h := by
  unfold Ready Idle
  iintro ⟨H, HI⟩
  isplitl [H]
  · iexists _; iexact H
  iexact HI

/-- A copied quarter holds the columns. -/
theorem copied (c : Dev nD) (s : Fin 8) (h : Fin 2) (q : Fin 4) (f : Buf (Elt F) ((c : Thread nD τ).loc cc0_scratch0)) :
    ∀ i ∈ bSet h q, (bV h q).view.write (Elt F) f ((wV c s h q).view.read (Elt F) (wAt m c)) Finset.univ i = fW m c s h i := by
  intro i hi
  rw [← b_set] at hi
  obtain ⟨y, -, rfl⟩ := Finset.mem_map.mp hi
  refine (View.write_emb_of_mem _ _ (Finset.mem_univ y)).trans ?_
  rw [View.read_apply]
  unfold fW wcol
  refine congrArg (wAt m c) (idx2_ext ?_ ?_)
  · rw [wV_emb0]; exact (bV_emb1 h q y).symm
  · rw [wV_emb1]; show _ = _ + ((bV h q).view.emb y 2).val; rw [bV_emb2]

theorem copied_pts (c : Dev nD) (s : Fin 8) (h : Fin 2) (q : Fin 4) (f : Buf (Elt F) ((c : Thread nD τ).loc cc0_scratch0)) :
    (bPts c (bSet h q) ((bV h q).view.write (Elt F) f ((wV c s h q).view.read (Elt F) (wAt m c)) Finset.univ) : sProp 𝕄) ⊢ bPts c (bSet h q) (fW m c s h) :=
  Entails.of_eq (pointsTo_congr (copied m c s h q f))

theorem copyW_run (c : Dev nD) (s : Fin 8) (h : Fin 2) (q : Fin 4) (f : Buf (Elt F) ((c : Thread nD τ).loc cc0_scratch0)) :
    iprop(bPts c (bSet h q) f ∗ idleQ m c h q) ⊢ run c (copyW c s h q) (flyQ m c s h q) := by
  unfold idleQ copyW run
  simp only [Prog.lift]
  have hsplit : (wPts m c Finset.univ h q : sProp 𝕄) ⊢ iprop(wPts m c (wV c s h q).view.set h q ∗ wPts m c (Finset.univ \ (wV c s h q).view.set) h q) := by
    have := (pointsTo_union (Val := Elt F) (Ix := Unit) (Name := ℕ) (U := UU) (Lvl := ℕ) (ℓ := (c : Thread nD τ).loc main_arg1) (q := shr h q) (f := wAt m c)
      (I := (wV c s h q).view.set) (J := Finset.univ \ (wV c s h q).view.set) Finset.disjoint_sdiff).1
    rw [Finset.union_sdiff_of_subset (Finset.subset_univ _)] at this
    exact this
  iintro ⟨Hb, Hw, Hs⟩
  ihave Hw := hsplit $$ Hw
  icases Hw with ⟨Hw, Hr⟩
  iapply (wp_dmaLocal EC 𝒱₀ (c : Thread nD τ) none (src := wV c s h q) (dst := bV h q) (via := .same) (sm := .dma (wSem h q)) (q := shr h q) (fs := wAt m c)
    (Sd := bSet h q) (fd := f) () M rfl M_pos (b_set h q).subset) $$ [Hb Hw Hs]
  · isplitl [Hw]; · iexact Hw
    isplitl [Hb] <;> iassumption
  iintro HF
  rw [wp_ret]; imodintro
  unfold flyQ
  isplitl [HF]
  · iapply (Flight_mono EC (c : Thread nD τ) (sep_mono_left (copied_pts m c s h q f))) $$ HF
  iexact Hr

/-- Half the weight buffer is its four quarters. -/
theorem half_eq (c : Dev nD) (h : Fin 2) (f : Buf (Elt F) ((c : Thread nD τ).loc cc0_scratch0)) :
    (bPts c (bsSet h) f : sProp 𝕄) = bigSep Finset.univ fun q => bPts c (bSet h q) f := by
  unfold bPts
  rw [bs_union h, pointsTo_biUnion _ _ (fun q _ q' _ => b_disj h q q')]

/-- The four copies of a half block. -/
theorem copies_run (c : Dev nD) (s : Fin 8) (h : Fin 2) : Idle m c h ⊢ run c (copies c s h) (Fly m c s h) := by
  unfold Idle copies Fly
  have key := run_forAll c (fun q => copyW (F := F) c s h q) (fun _ => iprop(emp)) (fun q => iprop((∃ f, bPts c (bSet h q) f) ∗ idleQ m c h q)) (flyQ m c s h) (by
    intro q
    iintro ⟨-, ⟨%f, Hb⟩, HI⟩
    iapply (run_post c (copyW_run m c s h q f) (by iintro H; isplitr; · iempintro
                                                   iexact H))
    isplitl [Hb] <;> iassumption)
  refine BIBase.Entails.trans ?_ (run_post c key (by iintro ⟨-, H⟩; iexact H))
  iintro ⟨⟨%f, Hb⟩, HI⟩
  isplitr; · iempintro
  iapply (Entails.of_eq (bigSep_sep' Finset.univ (fun q : Fin 4 => iprop(∃ f, bPts (F := F) c (bSet h q) f)) (idleQ m c h)).symm)
  isplitl [Hb]
  · ihave Hb := (Entails.of_eq (half_eq c h f)) $$ Hb
    iapply (show (bigSep Finset.univ fun q => bPts (F := F) c (bSet h q) f) ⊢ bigSep Finset.univ fun q => iprop(∃ f, bPts (F := F) c (bSet h q) f) from
      bigSep_mono fun q _ => by show (_ : sProp 𝕄) ⊢ _; iintro H; iexists f; iexact H) $$ Hb
  iexact HI

theorem lv_w (c : Dev nD) (h : Fin 2) (q : Fin 4) : lv ((c : Thread nD τ), .dma (wSem h q)) () = 0 := by
  unfold lv
  have hn : ∀ k, csem k ≠ .dma (wSem h q) := by revert h q; decide +kernel
  rw [show what ((c : Thread nD τ), SemLoc.dma (wSem h q)).2 = none from what_none hn]

theorem waitW_run (c : Dev nD) (s : Fin 8) (h : Fin 2) (q : Fin 4) {O : CellTallies nD τ sig Unit} (hO : Above 0 O) :
    iprop((levAts L lv ∗ ow c O) ∗ flyQ m c s h q)
      ⊢ run c (waitW c s h q) iprop((levAts L lv ∗ ow c O) ∗ bPts c (bSet h q) (fW m c s h) ∗ idleQ m c h q) := by
  unfold flyQ waitW run ow
  simp only [Prog.lift]
  iintro ⟨⟨#Hlev, ⟨%W, HO⟩⟩, HF, Hr⟩
  iapply (wp_waitLocalO EC 𝒱₀ (c : Thread nD τ) none (sem := wSem h q) (srcw := wV c s h q) (dstw := bV h q) () (N := M) rfl (O := O) (W := W)) $$ [HF HO]
  · isplitl [HF]; · iexact HF
    isplitl [HO]; · iexact HO
    iapply (mayWait c (.dma (wSem h q)) (k := 0) (by rw [lv_w]) hO); iexact Hlev
  iintro ⟨⟨Hb, Hw⟩, Hs, HO⟩
  rw [wp_ret]; imodintro
  isplitl [HO]
  · isplitr; · iexact Hlev
    iexists _; iexact HO
  isplitl [Hb]; · iexact Hb
  unfold idleQ
  isplitl [Hw Hr]
  · have := (pointsTo_union (Val := Elt F) (Ix := Unit) (Name := ℕ) (U := UU) (Lvl := ℕ) (ℓ := (c : Thread nD τ).loc main_arg1) (q := shr h q) (f := wAt m c)
      (I := (wV c s h q).view.set) (J := Finset.univ \ (wV c s h q).view.set) Finset.disjoint_sdiff).2
    rw [Finset.union_sdiff_of_subset (Finset.subset_univ _)] at this
    iapply this
    isplitl [Hw] <;> iassumption
  iexact Hs

/-- The waits for them. -/
theorem waits_run (c : Dev nD) (s : Fin 8) (h : Fin 2) {O : CellTallies nD τ sig Unit} (hO : Above 0 O) :
    iprop((levAts L lv ∗ ow c O) ∗ Fly m c s h) ⊢ run c (waits c s h) iprop((levAts L lv ∗ ow c O) ∗ Ready m c s h) := by
  unfold waits Fly Ready
  refine run_post c (run_forAll c (fun q => waitW (F := F) c s h q) (fun _ => iprop(levAts L lv ∗ ow c O)) (flyQ m c s h)
    (fun q => iprop(bPts c (bSet h q) (fW m c s h) ∗ idleQ m c h q)) (fun q => waitW_run m c s h q hO)) ?_
  rw [bigSep_sep']
  iintro ⟨HA, Hb, HI⟩
  isplitl [HA]; · iexact HA
  isplitl [Hb]
  · iapply (Entails.of_eq (half_eq c h _).symm) $$ Hb
  iexact HI

end Cert.Exchange

end
-- ==== Proof.Products.lean ====
/-
  The kernel's products: the device's own block is stored into its result, every other block is stored into a half slot of
  the send buffer and sent to the device it belongs to.
-/
module

public import proofs.«01_k».proof.Proof.Chunks

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## What is read and written -/

/-- The device's rows of `x` in its block. -/
abbrev xPts (c : Dev nD) : sProp 𝕄 := iprop(((c : Thread nD τ).loc cc0_stg0_0) ↦{fullShare} xstg m c)
/-- The device's result, right at every place of `G`. -/
def outPts (c : Dev nD) (G : S4096x1024.Idx → Prop) : sProp 𝕄 :=
  iprop(∃ f : Buf (Elt F) ((c : Thread nD τ).loc cc0_stg1_0), ⌜∀ i, G i → f i = outAt m c i⌝ ∗ (((c : Thread nD τ).loc cc0_stg1_0) ↦{fullShare} f))

/-- The first `k` halves of the device's own rows, -/
def own (c : Dev nD) (k : ℕ) (i : S4096x1024.Idx) : Prop := (i 0).val / 512 = c.val ∧ (i 1).val / 512 < k
/-- and its own rows with those of the `n` devices before it. -/
def recvd (c : Dev nD) (n : ℕ) (i : S4096x1024.Idx) : Prop := (i 0).val / 512 = c.val ∨ ∃ j : Fin 7, j.val < n ∧ (i 0).val / 512 = (prv c j).val

theorem outPts_mono (c : Dev nD) {G G' : S4096x1024.Idx → Prop} (h : ∀ i, G' i → G i) : outPts m c G ⊢ outPts m c G' := by
  unfold outPts
  iintro ⟨%f, %hf, H⟩
  iexists f; isplitr
  · ipureintro; exact fun i hi => hf i (h i hi)
  iexact H

theorem read_x (c : Dev nD) : (xM : Memref sig .tc .vmem S512x4096 .f32).view.readAt (Elt F)
    (Rect.unit (s := S512x4096) ![0, 0] S512x4096.size inb_S512x4096_S512x4096_0_0).toLoadRect (xstg m c) = xstg m c :=
  Memref.readAt_unit_zero (Elt F) cc0_stg0_0 (funext fun a => by fin_cases a <;> rfl) _ _

theorem read_b (c : Dev nD) (s : Fin 8) (h : Fin 2) :
    ((bM : Memref sig .tc .vmem S2x4096x512 .f32).access (bsRect h)).read (Elt F) (fW m c s h) = blk m c s h := by
  funext y
  show fW m c s h ((bsRect h).emb y) = _
  unfold fW blk
  have h1 : (bsRect h).emb y 1 = y 1 := Fin.ext (bs_emb1 h y)
  have h2 : (bsRect h).emb y 2 = y 2 := Fin.ext (bs_emb2 h y)
  rw [h1, h2]

theorem acc_set (b : Ref sig .tc) (r : Rect b.ty.shape) : ((Memref.whole b).access r : View sig .tc _ _ _).set = r.set := View.set_slice_whole b r

/-- Storing right entries makes the stored places right. -/
theorem out_store (c : Dev nD) (r : Rect S4096x1024) (v : r.shape.Idx → Elt F .f32) {G G' : S4096x1024.Idx → Prop}
    (hG : ∀ i, G' i → i ∉ r.set → G i) (hv : ∀ y, v y = outAt m c (r.emb y)) (f : (cc0_stg1_0 : Ref sig .tc).ty.Contents (Elt F))
    (hf : ∀ i, G i → f i = outAt m c i) :
    ∀ i, G' i → ((oM : Memref sig .tc .vmem S4096x1024 .f32).access r).write (Elt F) f v Finset.univ i = outAt m c i := by
  intro i hi
  by_cases hr : i ∈ r.set
  · obtain ⟨y, -, rfl⟩ := Finset.mem_map.mp (show i ∈ ((oM : Memref sig .tc .vmem S4096x1024 .f32).access r).set by rw [acc_set cc0_stg1_0]; exact hr)
    exact (View.write_emb_of_mem (v := (oM : Memref sig .tc .vmem S4096x1024 .f32).access r) _ _ (Finset.mem_univ y)).trans (hv y)
  · rw [View.write_of_not_mem]
    · exact hf i (hG i hi hr)
    · rw [View.setOn_univ]; intro h; exact hr (by rwa [acc_set cc0_stg1_0] at h)

theorem own_val (c : Dev nD) (h : Fin 2) (y : S512x512.Idx) : relu (xstg m c) (blk m c 0 h) y = outAt m c ((oRect c h).emb y) := by
  have h0 : (y 0).val < 512 := (y 0).isLt
  have h1 : (y 1).val < 512 := (y 1).isLt
  have e0 := o_emb0 c h y
  have e1 := o_emb1 c h y
  unfold outAt
  rw [dif_pos (by rw [e0]; omega)]
  unfold prod
  congr 1
  · congr 1
    exact Fin.ext (by show h.val = _ / 512; rw [e1]; omega)
  · exact idx2_ext (by show (y 0).val = _ % 512; rw [e0]; omega) (by show (y 1).val = _ % 512; rw [e1]; omega)

theorem own_rect (c : Dev nD) (h : Fin 2) (i : S4096x1024.Idx) (hi : own c (h.val + 1) i) (hr : i ∉ (oRect c h).set) : own c h.val i := by
  refine ⟨hi.1, ?_⟩
  by_contra hc
  have h0 := hi.1
  have h1 := hi.2
  refine hr (Rect.mem_set_unit.mpr ?_)
  rw [oOff_eq]
  intro a
  match a with
  | ⟨0, _⟩ => show 512 * c.val ≤ (i 0).val ∧ (i 0).val < 512 * c.val + 512; omega
  | ⟨1, _⟩ => show 512 * h.val ≤ (i 1).val ∧ (i 1).val < 512 * h.val + 512; omega

/-! ## The device's own block -/

theorem keep_run (c : Dev nD) (h : Fin 2) :
    iprop(xPts m c ∗ Ready m c 0 h ∗ outPts m c (own c h.val)) ⊢ run c (keep c h) iprop(xPts m c ∗ Ready m c 0 h ∗ outPts m c (own c (h.val + 1))) := by
  unfold keep loadX loadB run Ready outPts
  simp only [Prog.lift, Prog.bind_op, Prog.bind_ret]
  iintro ⟨Hx, ⟨Hb, HI⟩, ⟨%f, %hf, Ho⟩⟩
  iapply (wp_load 𝒱₀ (c : Thread nD τ) none Set.univ (m := xM) (Finset.subset_univ _)) $$ Hx; iintro Hx
  rw [read_x]
  iapply (wp_load_rect 𝒱₀ (c : Thread nD τ) none Set.univ (m := bM) (r := bsRect h) (by rw [acc_set cc0_scratch0, bs_set])) $$ Hb; iintro Hb
  rw [read_b]
  iapply (wp_load 𝒱₀ (c : Thread nD τ) none Set.univ (m := oM) (Finset.subset_univ _)) $$ Ho; iintro Ho
  iapply (wp_store 𝒱₀ (c : Thread nD τ) none Set.univ (m := oM) (r := oRect c h) (Mk := Finset.univ) (Finset.subset_univ _)) $$ Ho; iintro Ho
  rw [wp_ret]; imodintro
  isplitl [Hx]; · iexact Hx
  isplitl [Hb HI]
  · isplitl [Hb] <;> iassumption
  iexists _; isplitr
  · ipureintro; exact out_store m c (oRect c h) _ (own_rect c h) (own_val m c h) f hf
  iexact Ho

/-! ## The other devices' blocks -/

variable (K : Dev nD × Ck → ℕ)

/-- What every device knows: the semaphores' promises, that each is at its only round, and the levels. -/
def Ctx : sProp 𝕄 :=
  iprop((bigSep Finset.univ fun ck => cellInv ER (rd m) (K ck) (kcell ck)) ∗ (bigSep Finset.univ fun ck => reached ER (kcell ck) 0) ∗ levAts L lv)
instance ctx_persistent : BI.Persistent (Ctx (F := F) m K) := by unfold Ctx; infer_instance

theorem ctx_inv (ck : Dev nD × Ck) : Ctx m K ⊢ cellInv ER (rd m) (K ck) (kcell ck) := by
  unfold Ctx; iintro ⟨H, -, -⟩; iapply (show (bigSep Finset.univ fun ck => cellInv ER (rd m) (K ck) (kcell ck)) ⊢ _ from bigSep_elim (Finset.mem_univ ck)) $$ H
theorem ctx_reached (ck : Dev nD × Ck) : Ctx (F := F) m K ⊢ reached ER (kcell ck) 0 := by
  unfold Ctx; iintro ⟨-, H, -⟩; iapply (show (bigSep Finset.univ fun ck => reached ER (kcell ck) 0) ⊢ _ from bigSep_elim (Finset.mem_univ ck)) $$ H
theorem ctx_lev : Ctx (F := F) m K ⊢ levAts L lv := by
  unfold Ctx; iintro ⟨-, -, H⟩; iexact H

/-- What sending half `h` of slot `j` uses up: the half slot here and there, and the two duties it fulfils. -/
def toSend (c : Dev nD) (j : Fin 7) (h : Fin 2) : sProp 𝕄 :=
  iprop((∃ f, sPts c (hSet j h) f) ∗ (∃ f, rPts (nxt c j) (hSet j h) f) ∗ dutyTok ER (sendCell c j h) 0 (0 : Fin 7) ∗ dutyTok ER (recvCell (nxt c j) j h) 0 (0 : Fin 7))

theorem fS_at (c : Dev nD) (j : Fin 7) (h : Fin 2) (i : S7x512x1024.Idx) (y : S1x512x512.Idx) (h0 : (i 0).val = j.val) (h1 : (i 1).val = (y 1).val)
    (h2 : (i 2).val = 512 * h.val + (y 2).val) : fS m c i = prodB m c j h y := by
  have y2 : (y 2).val < 512 := (y 2).isLt
  have y0 : (y 0).val < 1 := (y 0).isLt
  have : ∀ (a : Fin 7) (b : Fin 2) (z : S1x512x512.Idx), a = j → b = h → z = y → prodB m c a b z = prodB m c j h y := by
    rintro _ _ _ rfl rfl rfl; rfl
  exact this _ _ _ (Fin.ext h0) (Fin.ext (by show _ / 512 = h.val; rw [h2]; omega))
    (idx3_ext' (by show 0 = (y 0).val; omega) h1 (by show _ % 512 = (y 2).val; rw [h2]; omega))

/-- The stored half slot holds the rounded product. -/
theorem stored (c : Dev nD) (j : Fin 7) (h : Fin 2) (f : (cc0_scratch1 : Ref sig .tc).ty.Contents (Elt F)) :
    ∀ i ∈ hSet j h, ((sM : Memref sig .tc .vmem S7x512x1024 .bf16).access (hRect j h)).write (Elt F) f (reluB (xstg m c) (blk m c j.succ h)) Finset.univ i = fS m c i := by
  intro i hi
  rw [← h_set] at hi
  obtain ⟨y, -, rfl⟩ := Finset.mem_map.mp (show i ∈ ((sM : Memref sig .tc .vmem S7x512x1024 .bf16).access (hRect j h)).set by rw [acc_set cc0_scratch1]; exact hi)
  refine (View.write_emb_of_mem (v := (sM : Memref sig .tc .vmem S7x512x1024 .bf16).access (hRect j h)) _ _ (Finset.mem_univ y)).trans ?_
  exact (fS_at m c j h _ y (h_emb0 h j y) (h_emb1 h j y) (h_emb2 h j y)).symm

theorem stored_pts (c : Dev nD) (j : Fin 7) (h : Fin 2) (f : Buf (Elt F) ((c : Thread nD τ).loc cc0_scratch1)) :
    (sPts c (hSet j h) (((sM : Memref sig .tc .vmem S7x512x1024 .bf16).access (hRect j h)).write (Elt F) f (reluB (xstg m c) (blk m c j.succ h)) Finset.univ) : sProp 𝕄)
      ⊢ sPts c (hSet j h) (fS m c) := Entails.of_eq (pointsTo_congr (stored m c j h f))

/-- The received half slot holds what was sent. -/
theorem landed (c : Dev nD) (j : Fin 7) (h : Fin 2) (f : Buf (Elt F) ((nxt c j : Thread nD τ).loc cc0_scratch2)) :
    (((nxt c j : Thread nD τ).loc cc0_scratch2) ↦[(rV j h).view.set]{fullShare} (rV j h).view.write (Elt F) f ((sV j h).view.read (Elt F) (fS m c)) Finset.univ : sProp 𝕄)
      ⊢ rPts (nxt c j) (hSet j h) (fR m (nxt c j)) := by
  unfold rPts
  rw [rV_set]
  refine Entails.of_eq (pointsTo_congr fun i hi => ?_)
  rw [← rV_set] at hi
  obtain ⟨y, -, rfl⟩ := Finset.mem_map.mp hi
  refine (View.write_emb_of_mem _ _ (Finset.mem_univ y)).trans ?_
  rw [View.read_apply]
  unfold fR
  have hj : (rV j h).view.emb y 0 = j := by
    have := View.emb_mem_set (rV j h).view y
    rw [rV_set, hSet, Finset.mem_filter] at this
    exact Fin.ext this.2.1
  rw [hj, prv_nxt]
  rfl

/-- The library's rule of a remote copy, at half `h` of slot `j`. -/
theorem wp_transfer (c : Dev nD) (j : Fin 7) (h : Fin 2) (O : CellTallies nD τ sig Unit)
    {hsc : (rV j h : Memref sig (Dev.tc (nxt c j) : Thread nD τ).2.kind .vmem S512x512 .bf16).view.ref.isScScratch = false}
    {hsrc : (sV j h).view.WordExact} {hdst : (rV j h).view.WordExact}
    {hsem : DmaTarget.Typed .vmem (.dma (rSem j h)) (.remote (Dev.tc (nxt c j) : Thread nD τ) (rV j h) (.dma (sSem j h)) hsc)}
    {Q : PUnit → sProp 𝕄} {k : PUnit → Pr F} (f : Buf (Elt F) ((rV j h).view.loc (nxt c j : Thread nD τ))) (W : Waits sig Unit) :
    iprop(cellInv ER (rd m) (K (c, some (false, j, h))) (sendCell c j h) ∗ cellInv ER (rd m) (K (nxt c j, some (true, j, h))) (recvCell (nxt c j) j h)
        ∗ ((sV j h).view.loc (c : Thread nD τ) ↦[(sV j h).view.set]{fullShare} fS m c) ∗ ((rV j h).view.loc (nxt c j : Thread nD τ) ↦[(rV j h).view.set]{fullShare} f)
        ∗ owes (c : Thread nD τ) (O + tallyAt (recvCell (nxt c j) j h) () N) W
        ∗ dutyTok ER (sendCell c j h) 0 (0 : Fin 7) ∗ reached ER (sendCell c j h) 0
        ∗ dutyTok ER (recvCell (nxt c j) j h) 0 (0 : Fin 7) ∗ reached ER (recvCell (nxt c j) j h) 0)
      ⊢ iprop(((cred (tallyAt (sendCell c j h) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sV j h) (.remote (Dev.tc (nxt c j) : Thread nD τ) (rV j h) (.dma (sSem j h)) hsc) (.dma (rSem j h)) hsrc hdst hsem) k) Q) := by
  have hp₁ : ((sV j h).view.loc (c : Thread nD τ) ↦[(sV j h).view.set]{fullShare} fS m c : sProp 𝕄) ⊢ (rd m).payload (sendCell c j h) 0 (0 : Fin 7) := by
    rw [payload_send]; exact Entails.of_eq (congrArg (fun S => (sPts c S (fS m c) : sProp 𝕄)) (sV_set h j))
  have hp₂ := (landed m c j h f).trans (Entails.of_eq (payload_recv m (nxt c j) j h 0).symm)
  exact Rounds.wp_send_pointsTo 𝒱₀ ER (rd m) (c : Thread nD τ) none (κ₁ := K (c, some (false, j, h))) (κ₂ := K (nxt c j, some (true, j, h)))
    (r₁ := 0) (r₂ := 0) (d₁ := (0 : Fin 7)) (d₂ := (0 : Fin 7)) (fd := f)
    (by rw [duties_send]; exact Finset.mem_singleton_self _) (by rw [duties_recv]; exact Finset.mem_singleton_self _)
    () () N rfl (amount_send m c j h 0) (amount_recv m (nxt c j) j h 0) O rfl (W := W) hp₁ hp₂

/-- One transfer to `n`, the device at distance `j + 1`. -/
theorem transfer (c n : Dev nD) (j : Fin 7) (h : Fin 2) (hn : n = nxt c j) (O : CellTallies nD τ sig Unit)
    {hsc : (rV j h : Memref sig (Dev.tc n : Thread nD τ).2.kind .vmem S512x512 .bf16).view.ref.isScScratch = false}
    {hsrc : (sV j h).view.WordExact} {hdst : (rV j h).view.WordExact}
    {hsem : DmaTarget.Typed .vmem (.dma (rSem j h)) (.remote (Dev.tc n : Thread nD τ) (rV j h) (.dma (sSem j h)) hsc)} :
    iprop((Ctx m K ∗ ow c (O + tallyAt (recvCell (nxt c j) j h) () N)) ∗ sPts c (hSet j h) (fS m c) ∗ (∃ f, rPts (nxt c j) (hSet j h) f)
        ∗ dutyTok ER (sendCell c j h) 0 (0 : Fin 7) ∗ dutyTok ER (recvCell (nxt c j) j h) 0 (0 : Fin 7))
      ⊢ run c (Prog.lift (.enqueueDma (sV j h) (.remote (Dev.tc n) (rV j h) (.dma (sSem j h)) hsc) (.dma (rSem j h)) hsrc hdst hsem)) iprop((Ctx m K ∗ ow c O) ∗ cred (tallyAt (sendCell c j h) () N)) := by
  subst hn
  unfold run ow
  simp only [Prog.lift]
  iintro ⟨⟨#HC, ⟨%W, HO⟩⟩, Hs, ⟨%f, Hr⟩, Hts, Htr⟩
  ihave Hs := (Entails.of_eq (congrArg (fun S => (sPts c S (fS m c) : sProp 𝕄)) (sV_set h j).symm)) $$ Hs
  ihave Hr := (Entails.of_eq (congrArg (fun S => (rPts (nxt c j) S f : sProp 𝕄)) (rV_set h j).symm)) $$ Hr
  iapply (wp_transfer m K c j h O f W) $$ [Hs Hr HO Hts Htr]
  · isplitr; · iapply (ctx_inv m K (c, some (false, j, h))); iexact HC
    isplitr; · iapply (ctx_inv m K (nxt c j, some (true, j, h))); iexact HC
    isplitl [Hs]; · iexact Hs
    isplitl [Hr]; · iexact Hr
    isplitl [HO]; · iexact HO
    isplitl [Hts]; · iexact Hts
    isplitr; · iapply (ctx_reached m K (c, some (false, j, h))); iexact HC
    isplitl [Htr]; · iexact Htr
    iapply (ctx_reached m K (nxt c j, some (true, j, h))); iexact HC
  iintro ⟨Hc, HO⟩
  rw [wp_ret]; imodintro
  isplitr [Hc]
  · isplitr; · iexact HC
    iexists W; iexact HO
  iexact Hc

theorem send_run (c : Dev nD) (j : Fin 7) (h : Fin 2) (O : CellTallies nD τ sig Unit) :
    iprop((Ctx m K ∗ ow c (O + tallyAt (recvCell (nxt c j) j h) () N)) ∗ (xPts m c ∗ Ready m c j.succ h) ∗ toSend c j h)
      ⊢ run c (send c j h) iprop((Ctx m K ∗ ow c O) ∗ (xPts m c ∗ Ready m c j.succ h) ∗ cred (tallyAt (sendCell c j h) () N)) := by
  unfold send loadX loadB run Ready toSend
  simp only [Prog.lift, Prog.bind_op, Prog.bind_ret]
  iintro ⟨HC, ⟨Hx, Hb, HI⟩, ⟨%f, Hs⟩, Hr, Hts, Htr⟩
  iapply (wp_load 𝒱₀ (c : Thread nD τ) none Set.univ (m := xM) (Finset.subset_univ _)) $$ Hx; iintro Hx
  rw [read_x]
  iapply (wp_load_rect 𝒱₀ (c : Thread nD τ) none Set.univ (m := bM) (r := bsRect h) (by rw [acc_set cc0_scratch0, bs_set])) $$ Hb; iintro Hb
  rw [read_b]
  iapply (wp_load_rect 𝒱₀ (c : Thread nD τ) none Set.univ (m := sM) (r := hRect j h) (by rw [acc_set cc0_scratch1, h_set])) $$ Hs; iintro Hs
  iapply (wp_store 𝒱₀ (c : Thread nD τ) none Set.univ (m := sM) (r := hRect j h) (Mk := Finset.univ)
    (by rw [View.setOn_univ, acc_set cc0_scratch1, h_set])) $$ Hs; iintro Hs
  ihave Hs := (stored_pts m c j h f) $$ Hs
  iapply (run_post c (run_frame c (X := iprop(xPts m c ∗ bPts c (bsSet h) (fW m c j.succ h) ∗ bigSep Finset.univ (idleQ m c h))) (transfer m K c _ j h (dest_eq c j h) O))
    (show _ ⊢ iprop((Ctx m K ∗ ow c O) ∗ (xPts m c ∗ bPts c (bsSet h) (fW m c j.succ h) ∗ bigSep Finset.univ (idleQ m c h)) ∗ cred (tallyAt (sendCell c j h) () N)) from by
      iintro ⟨⟨HA, HB⟩, HX⟩
      isplitl [HA]; · iexact HA
      isplitl [HX] <;> iassumption))
  isplitl [HC Hs Hr Hts Htr]
  · isplitl [HC]; · iexact HC
    isplitl [Hs]; · iexact Hs
    isplitl [Hr]; · iexact Hr
    isplitl [Hts] <;> iassumption
  isplitl [Hx]; · iexact Hx
  isplitl [Hb] <;> iassumption

end Cert.Exchange

end
-- ==== Proof.Messages.lean ====
/-
  The kernel's messages: the handshake on the barriers, the waits for the half slots received and sent, and, with the
  products, the whole program of one device.
-/
module

public import proofs.«01_k».proof.Proof.Products

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (K : Dev nD × Ck → ℕ)

/-- A step at the head of a sequence, -/
theorem run_apply (c : Dev nD) {P R Q : sProp 𝕄} {p : Pr F} {k : PUnit → Pr F} (hp : P ⊢ run c p R) :
    P ⊢ iprop((R -∗ run c (k ⟨⟩) Q) -∗ run c (p >>= k) Q) := by
  iintro HP HK
  iapply (run_seq c (P := iprop(P ∗ (R -∗ run c (k ⟨⟩) Q))) (R := run c (k ⟨⟩) Q) (run_post c (run_frame c hp) (by
    iintro ⟨HR, HK⟩; iapply HK; iexact HR)) .rfl)
  isplitl [HP] <;> iassumption
/-- and at its end. -/
theorem run_last (c : Dev nD) {P R Q : sProp 𝕄} {p : Pr F} (hp : P ⊢ run c p R) : P ⊢ iprop((R -∗ Q) -∗ run c p Q) := by
  iintro HP HK
  iapply (run_post c (run_frame c (X := iprop(R -∗ Q)) hp) (by iintro ⟨HR, HK⟩; iapply HK; iexact HR))
  isplitl [HP] <;> iassumption

theorem halves (Φ : Fin 2 → sProp 𝕄) : bigSep Finset.univ Φ = iprop(Φ 0 ∗ Φ 1) := BI.bigSep_fin_two Φ

theorem waits_ctx (c : Dev nD) (s : Fin 8) (h : Fin 2) {O : CellTallies nD τ sig Unit} (hO : Above 0 O) :
    iprop((Ctx m K ∗ ow c O) ∗ Fly m c s h) ⊢ run c (waits c s h) iprop((Ctx m K ∗ ow c O) ∗ Ready m c s h) := by
  iintro ⟨⟨#HC, HO⟩, HF⟩
  iapply (run_last c (waits_run m c s h hO)) $$ [HO HF]
  · isplitl [HO]
    · isplitr; · iapply (ctx_lev m K); iexact HC
      iexact HO
    iexact HF
  iintro ⟨⟨-, HO⟩, HR⟩
  isplitl [HO]
  · isplitr; · iexact HC
    iexact HO
  iexact HR

/-! ## The blocks -/

/-- The device's own block. -/
theorem ownBlock_run (c : Dev nD) {O : CellTallies nD τ sig Unit} (hO : Above 0 O) :
    iprop((Ctx m K ∗ ow c O) ∗ xPts m c ∗ Fly m c 0 0 ∗ Idle m c 1 ∗ outPts m c (own c 0))
      ⊢ run c (ownBlock c) iprop((Ctx m K ∗ ow c O) ∗ xPts m c ∗ Fly m c 1 0 ∗ Idle m c 1 ∗ outPts m c (own c 2)) := by
  unfold ownBlock
  iintro ⟨HA, Hx, H0, H1, Ho⟩
  iapply (run_apply c (copies_run m c 0 1)) $$ H1; iintro H1
  iapply (run_apply c (waits_ctx m K c 0 0 hO)) $$ [HA H0]
  · isplitl [HA] <;> iassumption
  iintro ⟨HA, H0⟩
  iapply (run_apply c (keep_run m c 0)) $$ [Hx H0 Ho]
  · isplitl [Hx]; · iexact Hx
    isplitl [H0]; · iexact H0
    iexact Ho
  iintro ⟨Hx, H0, Ho⟩
  ihave H0 := (ready_idle m c 0 0) $$ H0
  iapply (run_apply c (copies_run m c 1 0)) $$ H0; iintro H0
  iapply (run_apply c (waits_ctx m K c 0 1 hO)) $$ [HA H1]
  · isplitl [HA] <;> iassumption
  iintro ⟨HA, H1⟩
  iapply (run_last c (keep_run m c 1)) $$ [Hx H1 Ho]
  · isplitl [Hx]; · iexact Hx
    isplitl [H1]; · iexact H1
    iexact Ho
  iintro ⟨Hx, H1, Ho⟩
  ihave H1 := (ready_idle m c 0 1) $$ H1
  isplitl [HA]; · iexact HA
  isplitl [Hx]; · iexact Hx
  isplitl [H0]; · iexact H0
  isplitl [H1]; · iexact H1
  iexact Ho

/-- The first half of the weight buffer before the `n`-th of the other blocks: its columns on their way, if there is such a block. -/
def Next (c : Dev nD) (n : ℕ) : sProp 𝕄 := if hn : n < 7 then Fly m c ⟨n + 1, by omega⟩ 0 else Idle m c 0

theorem copiesNext_run (c : Dev nD) (j : Fin 7) : Idle m c 0 ⊢ run c (copiesNext c j.succ) (Next m c (j.val + 1)) := by
  unfold copiesNext Next
  by_cases hj : j.val + 1 < 7
  · rw [dif_pos (show j.succ.val < 7 from hj), dif_pos hj]; exact copies_run m c _ 0
  · rw [dif_neg (show ¬ j.succ.val < 7 from hj), dif_neg hj]; exact run_done c

theorem next_fly (c : Dev nD) (j : Fin 7) : Next m c j.val = Fly m c j.succ 0 := by unfold Next; rw [dif_pos j.isLt]; rfl

theorem above_owed (c : Dev nD) (j : Fin 7) (n : ℕ) : Above 0 (owing (owedSlot c) n + tallyAt (recvCell (nxt c j) j 1) () N) :=
  above_add (above_owing _ (above_slot 0 (by decide) c) n) (above_tally _ _ _ (by rw [lv_recv]; decide))

theorem above_both (c : Dev nD) (j : Fin 7) (n : ℕ) :
    Above 0 ((owing (owedSlot c) n + tallyAt (recvCell (nxt c j) j 1) () N) + tallyAt (recvCell (nxt c j) j 0) () N) :=
  above_add (above_owed c j n) (above_tally _ _ _ (by rw [lv_recv]; decide))

/-- The block sent as slot `j`. -/
theorem otherBlock_run (c : Dev nD) (j : Fin 7) :
    iprop(((Ctx m K ∗ ow c (owing (owedSlot c) j.val)) ∗ xPts m c ∗ Next m c j.val ∗ Idle m c 1) ∗ bigSep Finset.univ (toSend c j))
      ⊢ run c (otherBlock c j) iprop(((Ctx m K ∗ ow c (owing (owedSlot c) (j.val + 1))) ∗ xPts m c ∗ Next m c (j.val + 1) ∗ Idle m c 1)
          ∗ bigSep Finset.univ fun h : Fin 2 => cred (tallyAt (sendCell c j h) () N)) := by
  unfold otherBlock
  rw [halves, halves, next_fly, owing_step, owedSlot, ← add_assoc]
  iintro ⟨⟨HA, Hx, H0, H1⟩, HT0, HT1⟩
  iapply (run_apply c (copies_run m c j.succ 1)) $$ H1; iintro H1
  iapply (run_apply c (waits_ctx m K c j.succ 0 (above_both c j (j.val + 1)))) $$ [HA H0]
  · isplitl [HA] <;> iassumption
  iintro ⟨HA, H0⟩
  iapply (run_apply c (send_run m K c j 0 (owing (owedSlot c) (j.val + 1) + tallyAt (recvCell (nxt c j) j 1) () N))) $$ [HA Hx H0 HT0]
  · isplitl [HA]; · iexact HA
    isplitl [Hx H0]
    · isplitl [Hx] <;> iassumption
    iexact HT0
  iintro ⟨HA, ⟨Hx, H0⟩, HC0⟩
  ihave H0 := (ready_idle m c j.succ 0) $$ H0
  iapply (run_apply c (copiesNext_run m c j)) $$ H0; iintro H0
  iapply (run_apply c (waits_ctx m K c j.succ 1 (above_owed c j (j.val + 1)))) $$ [HA H1]
  · isplitl [HA] <;> iassumption
  iintro ⟨HA, H1⟩
  iapply (run_last c (send_run m K c j 1 (owing (owedSlot c) (j.val + 1)))) $$ [HA Hx H1 HT1]
  · isplitl [HA]; · iexact HA
    isplitl [Hx H1]
    · isplitl [Hx] <;> iassumption
    iexact HT1
  iintro ⟨HA, ⟨Hx, H1⟩, HC1⟩
  ihave H1 := (ready_idle m c j.succ 1) $$ H1
  isplitl [HA Hx H0 H1]
  · isplitl [HA]; · iexact HA
    isplitl [Hx]; · iexact Hx
    isplitl [H0] <;> iassumption
  isplitl [HC0] <;> iassumption

/-! ## The handshake -/

/-- What the signal to device `p` uses: a duty of its barrier, and the slot it lends. -/
def toSignal (c : Dev nD) (p : Fin 8) : sProp 𝕄 :=
  if p = c then iprop(emp) else iprop(∃ j : Fin 7, ⌜prv c j = p⌝ ∗ dutyTok ER (barCell p) 0 j ∗ ∃ f, rPts c (sSet j) f)

theorem signal_run (c : Dev nD) (p : Fin 8) (X : CellTallies nD τ sig Unit) :
    iprop((Ctx m K ∗ ow c (X + owing (owedBar c) p.val)) ∗ toSignal c p)
      ⊢ run c (signal c p) iprop((Ctx m K ∗ ow c (X + owing (owedBar c) (p.val + 1))) ∗ emp) := by
  unfold signal toSignal
  rw [owing_step (owedBar c) p, owedBar]
  by_cases hp : p = c
  · rw [if_pos hp, if_pos hp, if_pos hp, add_zero]; exact run_done c
  · rw [if_neg hp, if_neg hp, if_neg hp, ← add_assoc]
    unfold run ow
    simp only [semSignalWord, Prog.lift]
    iintro ⟨⟨#HC, ⟨%W, HO⟩⟩, ⟨%j, %hj, Ht, Hs⟩⟩
    iapply (Rounds.wp_signal 𝒱₀ ER (rd m) (c : Thread nD τ) none (dst := ((p : Dev nD) : Thread nD τ)) (κ := K (p, none))
      (d := j) (by rw [duties_bar]; exact Finset.mem_univ _) ((amount_bar m p j).trans (by decide)) () (X + owing (owedBar c) (p.val + 1)) rfl)
      $$ [HO Ht Hs]
    · isplitr; · iapply (ctx_inv m K (p, none)); iexact HC
      isplitl [HO]; · iexact HO
      isplitl [Ht]; · iexact Ht
      isplitl [Hs]
      · rw [payload_bar, ← hj, nxt_prv]; iexact Hs
      iapply (ctx_reached m K (p, none)); iexact HC
    iintro HO
    rw [wp_ret]; imodintro
    isplitl [HO]
    · isplitr; · iexact HC
      iexists W; iexact HO
    iempintro

theorem toSignal_of (c : Dev nD) :
    iprop((bigSep Finset.univ fun j : Fin 7 => dutyTok ER (barCell (prv c j)) 0 j) ∗ bigSep Finset.univ fun j : Fin 7 => iprop(∃ f, rPts (F := F) c (sSet j) f))
      ⊢ (bigSep Finset.univ (toSignal c) : sProp 𝕄) := by
  rw [bigSep_univ_at (toSignal c) c, ← bigSep_sep', others_eq, BI.bigSep_map]
  iintro H
  isplitr
  · unfold toSignal; rw [if_pos rfl]; iempintro
  iapply (show (bigSep Finset.univ fun j : Fin 7 => iprop(dutyTok ER (barCell (prv c j)) 0 j ∗ ∃ f, rPts (F := F) c (sSet j) f))
    ⊢ bigSep Finset.univ fun j : Fin 7 => toSignal (F := F) c (prv c j) from bigSep_mono fun j _ => by
      show (_ : sProp 𝕄) ⊢ _
      unfold toSignal; rw [if_neg (prv_ne c j)]
      iintro ⟨H, H'⟩
      iexists j
      isplitr; · ipureintro; rfl
      isplitl [H] <;> iassumption) $$ H

/-- The seven signals, and the wait for the seven received: every other device lends the slot it is to be sent. -/
theorem handshake_run (c : Dev nD) :
    iprop((Ctx m K ∗ ow c (O₀ c)) ∗ ((bigSep Finset.univ fun j : Fin 7 => dutyTok ER (barCell (prv c j)) 0 j)
        ∗ bigSep Finset.univ fun j : Fin 7 => iprop(∃ f, rPts (F := F) c (sSet j) f))
        ∗ cred (tallyAt (barCell c) () 7) ∗ atPos ER (barCell c) 0 (∅ : Finset (Fin 7)) 0)
      ⊢ run c (handshake c) iprop((Ctx m K ∗ ow c (owing (owedSlot c) 0)) ∗ (bigSep Finset.univ fun j : Fin 7 => iprop(∃ f, rPts (F := F) (nxt c j) (sSet j) f))
          ∗ semVal (barCell c) 0) := by
  unfold handshake O₀
  iintro ⟨HA, HT, Hc, Hat⟩
  ihave HT := (toSignal_of c) $$ HT
  iapply (run_apply c (run_forAll c (fun p => signal (F := F) c p) (fun n => iprop(Ctx m K ∗ ow c (owing (owedSlot c) 0 + owing (owedBar c) n))) (toSignal c)
    (fun _ => iprop(emp)) (fun p => signal_run m K c p _))) $$ [HA HT]
  · isplitl [HA] <;> iassumption
  rw [owing_end, add_zero]
  unfold run ow
  simp only [semWaitWord, Prog.lift]
  iintro ⟨⟨#HC, ⟨%W, HO⟩⟩, -⟩
  iapply (Rounds.wp_wait_rest_token 𝒱₀ ER (rd m) (c : Thread nD τ) none (κ := K (c, none))
      (wpE_semWait_eq 𝒱₀ (c : Thread nD τ) none Set.univ) (Set.mem_univ _) () (O := owing (owedSlot c) 0) (W := W) (R := 0) (m := 0) (T := ∅)
      (by rw [expect_bar]; decide)) $$ [Hc HO Hat]
  · isplitr; · iapply (ctx_inv m K (c, none)); iexact HC
    isplitl [Hc]; · iexact Hc
    isplitl [HO]; · iexact HO
    isplitr; · iapply (mayWait c (.reg barS) (k := 1) (by rw [lv_bar]) (above_owing _ (above_slot 1 (by decide) c) 0)); iapply (ctx_lev m K); iexact HC
    iexact Hat
  iintro ⟨HO, Hat, -, Hpay⟩
  ihave Hp := (Entails.of_eq (rest_bar m c)) $$ Hpay
  imod (Rounds.cell_close ER (rd m) (Set.mem_univ (K (c, none))) (fun h => h) (R := 0 + 1) (duties_later m (barCell c))) $$ [Hat] with Hz
  · isplitr; · iapply (ctx_inv m K (c, none)); iexact HC
    iexact Hat
  rw [wp_ret]; imodintro
  isplitl [HO]
  · isplitr; · iexact HC
    iexists _; iexact HO
  isplitl [Hp] <;> iassumption

/-! ## The waits -/

/-- The wait for half `h` of slot `j` received. -/
theorem waitR_run (c : Dev nD) (j : Fin 7) (h : Fin 2) {hs : (sV j h).view.WordExact} {hr : (rV j h).view.WordExact} :
    iprop((Ctx m K ∗ ow c 0) ∗ cred (tallyAt (recvCell c j h) () N) ∗ atPos ER (recvCell c j h) 0 (∅ : Finset (Fin 7)) 0)
      ⊢ run c (Prog.lift (.waitDma2 (rSem j h) (sV j h) (rV j h) hs hr)) iprop((Ctx m K ∗ ow c 0) ∗ rPts c (hSet j h) (fR m c) ∗ semVal (recvCell c j h) 0) := by
  unfold run ow
  simp only [Prog.lift]
  iintro ⟨⟨#HC, ⟨%W, HO⟩⟩, Hc, Hat⟩
  iapply (Rounds.wp_wait_rest_token 𝒱₀ ER (rd m) (c : Thread nD τ) none (κ := K (c, some (true, j, h)))
      (wpE_waitDma2_eq 𝒱₀ (c : Thread nD τ) none Set.univ) (Set.mem_univ _) () (O := 0) (W := W) (R := 0) (m := 0) (T := ∅)
      (by rw [Nat.zero_add]; exact (expect_recv m c j h).symm)) $$ [Hc HO Hat]
  · isplitr; · iapply (ctx_inv m K (c, some (true, j, h))); iexact HC
    isplitl [Hc]; · iexact Hc
    isplitl [HO]; · iexact HO
    isplitr; · rw [MayWait_zero]; iempintro
    iexact Hat
  iintro ⟨HO, Hat, -, Hpay⟩
  ihave Hp := (Entails.of_eq (rest_recv m c j h)) $$ Hpay
  imod (Rounds.cell_close ER (rd m) (Set.mem_univ (K (c, some (true, j, h)))) (fun h => h) (R := 0 + 1) (duties_later m (recvCell c j h))) $$ [Hat] with Hz
  · isplitr; · iapply (ctx_inv m K (c, some (true, j, h))); iexact HC
    iexact Hat
  rw [wp_ret]; imodintro
  isplitl [HO]
  · isplitr; · iexact HC
    iexists _; iexact HO
  isplitl [Hp] <;> iassumption

/-- The wait for half `h` of slot `j` sent. -/
theorem waitS_run (c : Dev nD) (j : Fin 7) (h : Fin 2) {hs : (rV j h).view.WordExact} {hr : (sV j h).view.WordExact} :
    iprop((Ctx m K ∗ ow c 0) ∗ cred (tallyAt (sendCell c j h) () N) ∗ atPos ER (sendCell c j h) 0 (∅ : Finset (Fin 7)) 0)
      ⊢ run c (Prog.lift (.waitDma2 (sSem j h) (rV j h) (sV j h) hs hr)) iprop((Ctx m K ∗ ow c 0) ∗ sPts c (hSet j h) (fS m c) ∗ semVal (sendCell c j h) 0) := by
  unfold run ow
  simp only [Prog.lift]
  iintro ⟨⟨#HC, ⟨%W, HO⟩⟩, Hc, Hat⟩
  iapply (Rounds.wp_wait_rest_token 𝒱₀ ER (rd m) (c : Thread nD τ) none (κ := K (c, some (false, j, h)))
      (wpE_waitDma2_eq 𝒱₀ (c : Thread nD τ) none Set.univ) (Set.mem_univ _) () (O := 0) (W := W) (R := 0) (m := 0) (T := ∅)
      (by rw [Nat.zero_add]; exact (expect_send m c j h).symm)) $$ [Hc HO Hat]
  · isplitr; · iapply (ctx_inv m K (c, some (false, j, h))); iexact HC
    isplitl [Hc]; · iexact Hc
    isplitl [HO]; · iexact HO
    isplitr; · rw [MayWait_zero]; iempintro
    iexact Hat
  iintro ⟨HO, Hat, -, Hpay⟩
  ihave Hp := (Entails.of_eq (rest_send m c j h)) $$ Hpay
  imod (Rounds.cell_close ER (rd m) (Set.mem_univ (K (c, some (false, j, h)))) (fun h => h) (R := 0 + 1) (duties_later m (sendCell c j h))) $$ [Hat] with Hz
  · isplitr; · iapply (ctx_inv m K (c, some (false, j, h))); iexact HC
    iexact Hat
  rw [wp_ret]; imodintro
  isplitl [HO]
  · isplitr; · iexact HC
    iexists _; iexact HO
  isplitl [Hp] <;> iassumption

/-- What a wait on a send or receive semaphore uses. -/
def toWait (g : GSem nD τ sig) : sProp 𝕄 := iprop(cred (tallyAt g () N) ∗ atPos ER g 0 (∅ : Finset (Fin 7)) 0)

theorem sent_run (c : Dev nD) (j : Fin 7) :
    iprop((Ctx m K ∗ ow c 0) ∗ bigSep Finset.univ fun h : Fin 2 => toWait (sendCell c j h))
      ⊢ run c (sent j) iprop((Ctx m K ∗ ow c 0) ∗ bigSep Finset.univ fun h : Fin 2 => iprop(sPts c (hSet j h) (fS m c) ∗ semVal (sendCell c j h) 0)) := by
  unfold sent toWait
  exact run_forAll c _ (fun _ => iprop(Ctx m K ∗ ow c 0)) _ _ fun h => waitS_run m K c j h

/-- Slot `j` is its two halves. -/
theorem slot_eq (c : Dev nD) (j : Fin 7) (f : Buf (Elt F) ((c : Thread nD τ).loc cc0_scratch2)) :
    (rPts c (sSet j) f : sProp 𝕄) = bigSep Finset.univ fun h => rPts c (hSet j h) f := by
  unfold rPts
  rw [s_union j, pointsTo_biUnion _ _ (fun h _ h' _ => h_disj j h h')]

theorem read_r (c : Dev nD) (j : Fin 7) :
    ((rM : Memref sig .tc .vmem S7x512x1024 .bf16).access (sRect j)).read (Elt F) (fR m c) = got m c j := by
  funext y
  show fR m c ((sRect j).emb y) = _
  unfold got
  exact congrArg (fR m c) (idx3_ext' (s_emb0 j y) (s_emb1 j y) (s_emb2 j y))

theorem got_val (c : Dev nD) (j : Fin 7) (y : S512x1024.Idx) : wide (got m c j) y = outAt m c ((gRect c j).emb y) := by
  have h0 : (y 0).val < 512 := (y 0).isLt
  have e0 := g_emb0 c j y
  have e1 := g_emb1 c j y
  have hc : c.val < 8 := c.isLt
  have hj : j.val < 7 := j.isLt
  unfold outAt
  rw [dif_neg (by rw [e0]; omega)]
  have : ∀ (a : Fin 7) (z : S512x1024.Idx), a = j → z = y → wide (got m c a) z = wide (got m c j) y := by rintro _ _ rfl rfl; rfl
  exact (this _ _ (Fin.ext (by show (c.val + 7 - _ / 512) % 8 = j.val; rw [e0]; omega))
    (idx2_ext (by show _ % 512 = (y 0).val; rw [e0]; omega) e1)).symm

theorem got_rect (c : Dev nD) (j : Fin 7) (i : S4096x1024.Idx) (hi : recvd c (j.val + 1) i) (hr : i ∉ (gRect c j).set) : recvd c j.val i := by
  rcases hi with hi | ⟨j', hj', hi⟩
  · exact Or.inl hi
  · by_cases hjj : j' = j
    · subst hjj
      refine absurd (Rect.mem_set_unit.mpr ?_) hr
      rw [gOff_eq]
      have h1 : (i 1).val < 1024 := (i 1).isLt
      have hp : (i 0).val / 512 = (c.val + 7 - j'.val) % 8 := hi
      intro a
      match a with
      | ⟨0, _⟩ => show 512 * ((c.val + 7 - j'.val) % 8) ≤ (i 0).val ∧ (i 0).val < 512 * ((c.val + 7 - j'.val) % 8) + 512; omega
      | ⟨1, _⟩ => show 0 ≤ (i 1).val ∧ (i 1).val < 0 + 1024; omega
    · exact Or.inr ⟨j', by have := fun h => hjj (Fin.ext h); omega, hi⟩

/-- Slot `j` received and stored. -/
theorem receive_run (c : Dev nD) (j : Fin 7) :
    iprop(((Ctx m K ∗ ow c 0) ∗ outPts m c (recvd c j.val)) ∗ bigSep Finset.univ fun h : Fin 2 => toWait (recvCell c j h))
      ⊢ run c (receive c j) iprop(((Ctx m K ∗ ow c 0) ∗ outPts m c (recvd c (j.val + 1)))
          ∗ rPts c (sSet j) (fR m c) ∗ bigSep Finset.univ fun h : Fin 2 => semVal (recvCell c j h) 0) := by
  unfold receive toWait
  iintro ⟨⟨HA, Ho⟩, HT⟩
  iapply (run_apply c (run_forAll c _ (fun _ => iprop(Ctx m K ∗ ow c 0)) _ _ fun h => waitR_run m K c j h)) $$ [HA HT]
  · isplitl [HA] <;> iassumption
  iintro ⟨HA, HD⟩
  ihave HD := (Entails.of_eq ((bigSep_sep' Finset.univ (fun h : Fin 2 => rPts c (hSet j h) (fR m c)) (fun h => semVal (recvCell c j h) 0)).trans
    (congrArg (fun P : sProp 𝕄 => iprop(P ∗ bigSep Finset.univ fun h : Fin 2 => semVal (recvCell c j h) 0)) (slot_eq c j (fR m c)).symm))) $$ HD
  icases HD with ⟨Hr, Hz⟩
  unfold outPts
  icases Ho with ⟨%f, %hf, Ho⟩
  unfold run
  simp only [Prog.lift, Prog.bind_op, Prog.bind_ret]
  iapply (wp_load_rect 𝒱₀ (c : Thread nD τ) none Set.univ (m := rM) (r := sRect j) (by rw [acc_set cc0_scratch2, s_set])) $$ Hr; iintro Hr
  rw [read_r]
  iapply (wp_load 𝒱₀ (c : Thread nD τ) none Set.univ (m := oM) (Finset.subset_univ _)) $$ Ho; iintro Ho
  iapply (wp_store 𝒱₀ (c : Thread nD τ) none Set.univ (m := oM) (r := gRect c j) (Mk := Finset.univ) (Finset.subset_univ _)) $$ Ho; iintro Ho
  rw [wp_ret]; imodintro
  isplitl [HA Ho]
  · isplitl [HA]; · iexact HA
    iexists _; isplitr
    · ipureintro; exact out_store m c (gRect c j) _ (got_rect c j) (got_val m c j) f hf
    iexact Ho
  isplitl [Hr] <;> iassumption

/-! ## The whole program -/

/-- What a device sends with: its half slots and the duties it fulfils. -/
def sendWith (c : Dev nD) (j : Fin 7) (h : Fin 2) : sProp 𝕄 :=
  iprop((∃ f, sPts c (hSet j h) f) ∗ dutyTok ER (sendCell c j h) 0 (0 : Fin 7) ∗ dutyTok ER (recvCell (nxt c j) j h) 0 (0 : Fin 7))

/-- With the slots lent by the others it can send. -/
theorem toSend_of (c : Dev nD) :
    iprop((bigSep Finset.univ fun j : Fin 7 => iprop(∃ f, rPts (F := F) (nxt c j) (sSet j) f)) ∗ bigSep Finset.univ fun j : Fin 7 => bigSep Finset.univ (sendWith c j))
      ⊢ (bigSep Finset.univ fun j : Fin 7 => bigSep Finset.univ (toSend (F := F) c j) : sProp 𝕄) := by
  rw [← bigSep_sep']
  refine bigSep_mono fun j _ => ?_
  show (_ : sProp 𝕄) ⊢ _
  iintro ⟨⟨%f, Hr⟩, Hs⟩
  ihave Hr := (Entails.of_eq ((slot_eq (nxt c j) j f).trans (halves _))) $$ Hr
  ihave Hs := (Entails.of_eq (halves (sendWith (F := F) c j))) $$ Hs
  iapply (Entails.of_eq (halves (toSend (F := F) c j)).symm)
  unfold sendWith toSend
  icases Hr with ⟨Hr0, Hr1⟩
  icases Hs with ⟨⟨Hs0, Ht0⟩, ⟨Hs1, Ht1⟩⟩
  isplitl [Hr0 Hs0 Ht0]
  · isplitl [Hs0]; · iexact Hs0
    isplitl [Hr0]; · iexists f; iexact Hr0
    iexact Ht0
  · isplitl [Hs1]; · iexact Hs1
    isplitl [Hr1]; · iexists f; iexact Hr1
    iexact Ht1

/-- What device `c` runs its program from, -/
def progPre (c : Dev nD) : sProp 𝕄 :=
  iprop((Ctx m K ∗ ow c (O₀ c)) ∗ (xPts m c ∗ outPts m c (fun _ => False)) ∗ (Idle m c 0 ∗ Idle m c 1)
    ∗ (((bigSep Finset.univ fun j : Fin 7 => dutyTok ER (barCell (prv c j)) 0 j) ∗ bigSep Finset.univ fun j : Fin 7 => iprop(∃ f, rPts (F := F) c (sSet j) f))
      ∗ cred (tallyAt (barCell c) () 7) ∗ atPos ER (barCell c) 0 (∅ : Finset (Fin 7)) 0)
    ∗ (bigSep Finset.univ fun j : Fin 7 => bigSep Finset.univ (sendWith c j))
    ∗ (bigSep Finset.univ fun j : Fin 7 => bigSep Finset.univ fun h : Fin 2 => toWait (recvCell c j h))
    ∗ (bigSep Finset.univ fun j : Fin 7 => bigSep Finset.univ fun h : Fin 2 => atPos ER (sendCell c j h) 0 (∅ : Finset (Fin 7)) 0))
/-- and what it leaves. -/
def progPost (c : Dev nD) : sProp 𝕄 :=
  iprop((Ctx m K ∗ ow c 0) ∗ (xPts m c ∗ outPts m c (fun _ => True)) ∗ (Idle m c 0 ∗ Idle m c 1) ∗ semVal (barCell c) 0
    ∗ (bigSep Finset.univ fun j : Fin 7 => iprop(rPts c (sSet j) (fR m c) ∗ bigSep Finset.univ fun h : Fin 2 => semVal (recvCell c j h) 0))
    ∗ (bigSep Finset.univ fun j : Fin 7 => bigSep Finset.univ fun h : Fin 2 => iprop(sPts c (hSet j h) (fS m c) ∗ semVal (sendCell c j h) 0)))

theorem recvd_all (c : Dev nD) (i : S4096x1024.Idx) : recvd c 7 i := by
  have h0 : (i 0).val < 4096 := (i 0).isLt
  have hc : c.val < 8 := c.isLt
  by_cases h : (i 0).val / 512 = c.val
  · exact Or.inl h
  · refine Or.inr ⟨⟨(c.val + 7 - (i 0).val / 512) % 8, by omega⟩, by show _ % 8 < 7; omega, ?_⟩
    show (i 0).val / 512 = (c.val + 7 - (c.val + 7 - (i 0).val / 512) % 8) % 8
    omega

set_option maxHeartbeats 800000 in
theorem program_run (c : Dev nD) : progPre m K c ⊢ run c (program c) (progPost m K c) := by
  unfold progPre progPost program
  iintro ⟨HA, ⟨Hx, Ho⟩, ⟨H0, H1⟩, HH, HS, HR, HP⟩
  iapply (run_apply c (copies_run m c 0 0)) $$ H0; iintro H0
  iapply (run_apply c (handshake_run m K c)) $$ [HA HH]
  · isplitl [HA] <;> iassumption
  iintro ⟨HA, HH, Hbar⟩
  ihave HS := (toSend_of c) $$ [HH HS]
  · isplitl [HH] <;> iassumption
  ihave Ho := (outPts_mono m c (G' := own c 0) (fun i hi => absurd hi.2 (Nat.not_lt_zero _))) $$ Ho
  iapply (run_apply c (ownBlock_run m K c (above_owing _ (above_slot 0 (by decide) c) 0))) $$ [HA Hx H0 H1 Ho]
  · isplitl [HA]; · iexact HA
    isplitl [Hx]; · iexact Hx
    isplitl [H0]; · iexact H0
    isplitl [H1] <;> iassumption
  iintro ⟨HA, Hx, H0, H1, Ho⟩
  ihave H0 := (Entails.of_eq (show Fly m c 1 0 = Next m c 0 from (next_fly m c 0).symm)) $$ H0
  iapply (run_apply c (run_forAll c (fun j => otherBlock (F := F) c j)
    (fun n => iprop((Ctx m K ∗ ow c (owing (owedSlot c) n)) ∗ xPts m c ∗ Next m c n ∗ Idle m c 1)) _ _ (fun j => otherBlock_run m K c j))) $$ [HA Hx H0 H1 HS]
  · isplitr [HS]
    · isplitl [HA]; · iexact HA
      isplitl [Hx]; · iexact Hx
      isplitl [H0] <;> iassumption
    iexact HS
  rw [owing_end]
  iintro ⟨⟨HA, Hx, H0, H1⟩, HC⟩
  ihave H0 := (Entails.of_eq (show Next m c 7 = Idle m c 0 from by unfold Next; rw [dif_neg (by decide)])) $$ H0
  ihave Ho := (outPts_mono m c (G' := recvd c 0) (fun i hi => by
    rcases hi with hi | ⟨j, hj, -⟩
    · exact ⟨hi, by have : (i 1).val < 1024 := (i 1).isLt; omega⟩
    · exact absurd hj (Nat.not_lt_zero _))) $$ Ho
  iapply (run_apply c (run_forAll c (fun j => receive (F := F) c j) (fun n => iprop((Ctx m K ∗ ow c 0) ∗ outPts m c (recvd c n))) _ _ (fun j => receive_run m K c j))) $$ [HA Ho HR]
  · isplitr [HR]
    · isplitl [HA] <;> iassumption
    iexact HR
  iintro ⟨⟨HA, Ho⟩, HR⟩
  ihave Ho := (outPts_mono m c (G' := fun _ => True) (fun i _ => recvd_all c i)) $$ Ho
  iapply (run_last c (run_forAll c (fun j => sent (F := F) j) (fun _ => iprop(Ctx m K ∗ ow c 0)) _ _ (fun j => sent_run m K c j))) $$ [HA HC HP]
  · isplitl [HA]; · iexact HA
    unfold toWait
    simp only [bigSep_sep']
    isplitl [HC] <;> iassumption
  iintro ⟨HA, HS⟩
  isplitl [HA]; · iexact HA
  isplitl [Hx Ho]
  · isplitl [Hx] <;> iassumption
  isplitl [H0 H1]
  · isplitl [H0] <;> iassumption
  isplitl [Hbar]; · iexact Hbar
  isplitl [HR] <;> iassumption

end Cert.Exchange

end
-- ==== Proof.Deal.lean ====
/-
  How the launch deals the devices their resources: the semaphores' promises are made, the right to fulfil each duty goes to
  the device that fulfils it, and each device gets the credit the others owe it.
-/
module

public import proofs.«01_k».proof.Proof.Messages
public import Idealize.ShloMosaic.Lib.Quiescent

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The semaphores -/

/-- The kernel's own semaphores: those of the local copies, and those of the slots. -/
abbrev OwnK : Type := (Fin 2 × Fin 4) ⊕ (Bool × Fin 7 × Fin 2)
abbrev osem : OwnK → SemLoc sig
  | .inl (h, q) => .dma (wSem h q)
  | .inr b => csem (some b)

theorem ownSemFacts : Pipeline.OwnSemFacts cfg0.spec osem := by decide +kernel

/-- A device's semaphores with a promise: its barrier, those it sends with, those it receives with. -/
theorem bigSep_ck (Φ : Ck → sProp 𝕄) : bigSep Finset.univ Φ = iprop(Φ none
    ∗ (bigSep Finset.univ fun j : Fin 7 => bigSep Finset.univ fun h : Fin 2 => Φ (some (false, j, h)))
    ∗ (bigSep Finset.univ fun j : Fin 7 => bigSep Finset.univ fun h : Fin 2 => Φ (some (true, j, h)))) := by
  rw [bigSep_univ_at Φ none, show (Finset.univ.erase (none : Ck)) = Finset.univ.map Function.Embedding.some from by
    ext k; cases k <;> simp, BI.bigSep_map, BI.bigSep_univ_prod,
    bigSep_univ_eq_bigSepL [false, true] (by decide) (by decide), bigSepL_cons_cons, bigSepL_singleton, BI.bigSep_univ_prod, BI.bigSep_univ_prod]
  rfl

/-- The local copies' semaphores at zero. -/
def wZero (c : Dev nD) : sProp 𝕄 := bigSep Finset.univ fun h : Fin 2 => bigSep Finset.univ fun q : Fin 4 => semVal ((c : Thread nD τ), .dma (wSem h q)) 0
/-- The slots' semaphores at zero. -/
def kZero (c : Dev nD) : sProp 𝕄 := bigSep Finset.univ fun b : Bool × Fin 7 × Fin 2 => semVal (kcell (c, some b)) 0

theorem ownSems0_eq (c : Dev nD) : (Pipeline.ownSems0 (Ix := Unit) (Name := ℕ) (U := UU) (Lvl := ℕ) (Val := Elt F) (τ := τ) osem c : sProp 𝕄)
    = iprop(wZero c ∗ kZero c) := by
  unfold Pipeline.ownSems0 wZero kZero; rw [BI.bigSep_univ_sum, BI.bigSep_univ_prod]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem kZero_eq (c : Dev nD) : (kZero c : sProp 𝕄) = iprop((bigSep Finset.univ fun j : Fin 7 => bigSep Finset.univ fun h : Fin 2 => semVal (sendCell c j h) 0)
    ∗ bigSep Finset.univ fun j : Fin 7 => bigSep Finset.univ fun h : Fin 2 => semVal (recvCell c j h) 0) := by
  unfold kZero
  rw [BI.bigSep_univ_prod, bigSep_univ_eq_bigSepL [false, true] (by decide) (by decide), bigSepL_cons_cons, bigSepL_singleton, BI.bigSep_univ_prod, BI.bigSep_univ_prod]
  rfl

theorem sems_k (c : Dev nD) : iprop(kZero c ∗ semVal (barCell c) 0) ⊢ (bigSep Finset.univ fun k : Ck => semVal (kcell (c, k)) 0 : sProp 𝕄) := by
  rw [bigSep_univ_at (fun k : Ck => (semVal (kcell (c, k)) 0 : sProp 𝕄)) none, show (Finset.univ.erase (none : Ck)) = Finset.univ.map Function.Embedding.some from by
    ext k; cases k <;> simp, BI.bigSep_map]
  unfold kZero
  iintro ⟨H, HB⟩
  isplitl [HB]; · iexact HB
  iexact H

/-! ## What is minted -/

def cells : Finset (GSem nD τ sig) := Finset.univ.map ⟨kcell, kcell_inj⟩
/-- A right for each number of a duty at each semaphore. -/
abbrev tokOf (x : (Dev nD × Ck) × Fin 7) : GSem nD τ sig × ℕ × Fin 7 := (kcell x.1, 0, x.2)
theorem tokOf_inj : Function.Injective tokOf := by
  rintro ⟨ck, d⟩ ⟨ck', d'⟩ h
  have h1 : ck = ck' := kcell_inj (congrArg Prod.fst h)
  have h2 : d = d' := congrArg (fun x : GSem nD τ sig × ℕ × Fin 7 => x.2.2) h
  rw [h1, h2]
def minted : Finset (GSem nD τ sig × ℕ × Fin 7) := Finset.univ.map ⟨tokOf, tokOf_inj⟩

def u₀ : UU :=
  (initOf (Pipeline.cells cfgs cellOf_inj) (Pipeline.launchToks cfgs cellOf_inj), (initOf cells minted, 1))

/-- The rights at a device's own semaphores. -/
def toks (c : Dev nD) : sProp 𝕄 := bigSep Finset.univ fun k : Ck => bigSep Finset.univ fun d : Fin 7 => dutyTok ER (kcell (c, k)) 0 d

def G (c : Dev nD) : sProp 𝕄 :=
  iprop((bigSep Finset.univ fun k : Ck => roundState ER (rd m) (kcell (c, k)) 0)
    ∗ (bigSep Finset.univ fun k : Ck => iprop(atPos ER (kcell (c, k)) 0 ∅ 0 ∗ reached ER (kcell (c, k)) 0)) ∗ toks c)

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem fund_cells : BI.own (ER (initOf cells minted)) ⊢ (|==> bigSep Finset.univ (G m) : sProp 𝕄) := by
  have hX (Φ : GSem nD τ sig → sProp 𝕄) : bigSep cells Φ = bigSep Finset.univ fun c : Dev nD => bigSep Finset.univ fun k : Ck => Φ (kcell (c, k)) := by
    unfold cells; rw [BI.bigSep_map, BI.bigSep_univ_prod]; rfl
  have hT : bigSep minted (fun x => (dutyTok ER x.1 x.2.1 x.2.2 : sProp 𝕄)) = bigSep Finset.univ fun c : Dev nD => toks c := by
    unfold minted toks; rw [BI.bigSep_map, BI.bigSep_univ_prod, BI.bigSep_univ_prod]; rfl
  iintro HX
  imod (Rounds.fund ER (rd m) cells minted) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The promises made -/

variable (K : Dev nD × Ck → ℕ)

/-- What every device knows of the semaphores. -/
def records : sProp 𝕄 :=
  iprop((bigSep Finset.univ fun ck => cellInv ER (rd m) (K ck) (kcell ck)) ∗ bigSep Finset.univ fun ck => reached ER (kcell ck) 0)
instance records_persistent : BI.Persistent (records (F := F) m K) := by unfold records; infer_instance

/-- The rights a device uses: the duty of every other device's barrier that is its own, and those of its sends. -/
def payToks (c : Dev nD) : sProp 𝕄 :=
  iprop((bigSep Finset.univ fun j : Fin 7 => dutyTok ER (barCell (prv c j)) 0 j)
    ∗ (bigSep Finset.univ fun j : Fin 7 => bigSep Finset.univ fun h : Fin 2 => dutyTok ER (sendCell c j h) 0 (0 : Fin 7))
    ∗ (bigSep Finset.univ fun j : Fin 7 => bigSep Finset.univ fun h : Fin 2 => dutyTok ER (recvCell (nxt c j) j h) 0 (0 : Fin 7)))
/-- What only the device itself holds. -/
def own1 (c : Dev nD) : sProp 𝕄 := iprop((bigSep Finset.univ fun k : Ck => atPos ER (kcell (c, k)) 0 (∅ : Finset (Fin 7)) 0) ∗ payToks c ∗ wZero c)

def G' (c : Dev nD) : sProp 𝕄 := iprop(∃ K, records m K ∗ own1 c)

/-- The devices around the ring at distance `j + 1`. -/
def ring (j : Fin 7) : Dev nD ≃ Dev nD := ⟨fun c => nxt c j, fun c => prv c j, fun c => prv_nxt c j, fun c => nxt_prv c j⟩

/-- Resources named by a device and a slot may be dealt along the ring. -/
theorem deal (Φ : Dev nD → Fin 7 → sProp 𝕄) (e : Fin 7 → (Dev nD ≃ Dev nD)) :
    (bigSep Finset.univ fun c : Dev nD => bigSep Finset.univ fun j : Fin 7 => Φ c j) = bigSep Finset.univ fun c : Dev nD => bigSep Finset.univ fun j : Fin 7 => Φ (e j c) j := by
  rw [← BI.bigSep_univ_prod (fun x : Dev nD × Fin 7 => Φ x.1 x.2), ← BI.bigSep_univ_prod (fun x : Dev nD × Fin 7 => Φ (e x.2 x.1) x.2)]
  exact BI.bigSep_univ_equiv (⟨fun x => (e x.2 x.1, x.2), fun x => ((e x.2).symm x.1, x.2), fun x => by simp, fun x => by simp⟩ : Dev nD × Fin 7 ≃ Dev nD × Fin 7) _

theorem toks_own (c : Dev nD) : (toks c : sProp 𝕄) ⊢ iprop((bigSep Finset.univ fun j : Fin 7 => dutyTok ER (barCell c) 0 j)
    ∗ (bigSep Finset.univ fun j : Fin 7 => bigSep Finset.univ fun h : Fin 2 => dutyTok ER (sendCell c j h) 0 (0 : Fin 7))
    ∗ (bigSep Finset.univ fun j : Fin 7 => bigSep Finset.univ fun h : Fin 2 => dutyTok ER (recvCell c j h) 0 (0 : Fin 7))) := by
  unfold toks
  rw [bigSep_ck]
  exact sep_mono_right (BIClass.sep_mono (bigSep_mono fun j _ => bigSep_mono fun h _ => bigSep_elim (Finset.mem_univ 0))
    (bigSep_mono fun j _ => bigSep_mono fun h _ => bigSep_elim (Finset.mem_univ 0)))

theorem toks_around : (bigSep Finset.univ fun c : Dev nD => (toks c : sProp 𝕄)) ⊢ bigSep Finset.univ fun c : Dev nD => payToks c := by
  have h1 : (bigSep Finset.univ fun c : Dev nD => (toks c : sProp 𝕄)) ⊢ _ := bigSep_mono fun c _ => toks_own (F := F) c
  refine h1.trans ?_
  unfold payToks
  rw [bigSep_sep', bigSep_sep', bigSep_sep', bigSep_sep',
    deal (fun c j => (dutyTok ER (barCell c) 0 j : sProp 𝕄)) fun j => (ring j).symm,
    deal (fun c j => (bigSep Finset.univ fun h : Fin 2 => dutyTok ER (recvCell c j h) 0 (0 : Fin 7) : sProp 𝕄)) ring]
  exact .rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ wZero c) := by
  unfold G
  rw [ownSems0_eq, unscopedSems0_eq]
  iintro ⟨⟨Hw, Hk⟩, Hb, Hst, Hat, Htok⟩
  ihave Hv := (sems_k (F := F) c) $$ [Hk Hb]
  · isplitl [Hk] <;> iassumption
  imod (show iprop((bigSep Finset.univ fun k : Ck => semVal (kcell (c, k)) 0) ∗ bigSep Finset.univ fun k : Ck => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ wZero c) : sProp 𝕄)
      ⊢ bigSep Finset.univ (G' m) := by
  rw [bigSep_sep', bigSep_sep', bigSep_sep', ← BI.bigSep_univ_prod (fun ck : Dev nD × Ck => iprop(∃ κ : ℕ, cellInv ER (rd m) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← BI.bigSep_univ_prod (fun ck : Dev nD × Ck => (reached ER (kcell ck) 0 : sProp 𝕄))]
  iintro ⟨HI, ⟨Hat, #HR⟩, Htok, Hw⟩
  ihave HK := (BI.bigSep_exists_pi Finset.univ (fun (ck : Dev nD × Ck) (κ : ℕ) => (cellInv ER (rd m) κ (kcell ck) : sProp 𝕄))) $$ HI
  icases HK with ⟨%K, #HI⟩
  ihave Htk := (toks_around (F := F)) $$ Htok
  iapply (with_persistent (R := records m K) (Φ := own1) fun c _ => (by unfold G'; iintro H; iexists K; iexact H))
  isplitr
  · unfold records; isplitl; · iexact HI
    iexact HR
  · unfold own1
    simp only [bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem tally_at {g g' : GSem nD τ sig} (n : ℕ) : (tallyAt g () n : CellTallies nD τ sig Unit) g' () = if g' = g then n else 0 := by
  rw [tallyAt_apply]; by_cases h : g' = g
  · rw [if_pos ⟨h, rfl⟩, if_pos h]
  · rw [if_neg fun h' => h h'.1, if_neg h]

theorem sum_at {n : ℕ} (f : Fin n → CellTallies nD τ sig Unit) (g : GSem nD τ sig) : (owing f 0) g () = ∑ i, f i g () := by
  rw [owing_zero, Finset.sum_apply, Finsupp.finset_sum_apply]

theorem owed_at (d : Dev nD) (g : GSem nD τ sig) : O₀ d g () = (∑ j, owedSlot d j g ()) + ∑ p, owedBar d p g () := by
  unfold O₀; rw [Pi.add_apply, Finsupp.add_apply, sum_at, sum_at]

theorem bar_ne_recv (a b : Dev nD) (j : Fin 7) (h : Fin 2) : barCell a ≠ recvCell b j h := fun e => by
  have := kcell_inj (a₁ := (a, none)) (a₂ := (b, some (true, j, h))) e
  exact absurd (congrArg Prod.snd this) (by simp)
theorem bar_iff {a b : Dev nD} : barCell a = barCell b ↔ a = b :=
  ⟨fun e => congrArg Prod.fst (kcell_inj (a₁ := (a, none)) (a₂ := (b, none)) e), fun e => e ▸ rfl⟩
theorem recv_iff {a b : Dev nD} {j j' : Fin 7} {h h' : Fin 2} : recvCell a j h = recvCell b j' h' ↔ a = b ∧ j = j' ∧ h = h' :=
  ⟨fun e => by
    have := kcell_inj (a₁ := (a, some (true, j, h))) (a₂ := (b, some (true, j', h'))) e
    simpa [Prod.ext_iff] using this, fun ⟨h1, h2, h3⟩ => by rw [h1, h2, h3]⟩

theorem owed_bar (d c : Dev nD) : O₀ d (barCell c) () = if d = c then 0 else 1 := by
  rw [owed_at, Finset.sum_eq_zero, zero_add, Finset.sum_eq_single c]
  · unfold owedBar
    by_cases h : d = c
    · rw [if_pos h.symm, if_pos h]; rfl
    · rw [if_neg fun e => h e.symm, if_neg h, tally_at, if_pos rfl]
  · intro p _ hp
    unfold owedBar; split
    · rfl
    · rw [tally_at, if_neg fun e => hp (bar_iff.mp e).symm]
  · exact fun h => absurd (Finset.mem_univ c) h
  · intro j _
    unfold owedSlot
    rw [Pi.add_apply, Finsupp.add_apply, tally_at, tally_at, if_neg (bar_ne_recv _ _ _ _), if_neg (bar_ne_recv _ _ _ _), add_zero]

theorem owed_recv (d c : Dev nD) (j : Fin 7) (h : Fin 2) : O₀ d (recvCell c j h) () = if d = prv c j then N else 0 := by
  have hd : c = nxt d j ↔ d = prv c j := ⟨fun e => by rw [e, prv_nxt], fun e => by rw [e, nxt_prv]⟩
  rw [owed_at, Finset.sum_eq_single j, Finset.sum_eq_zero, add_zero]
  · unfold owedSlot
    rw [Pi.add_apply, Finsupp.add_apply, tally_at, tally_at]
    by_cases e : d = prv c j
    · have hc := hd.mpr e
      rw [if_pos e]
      fin_cases h
      · rw [if_neg fun e => absurd (recv_iff.mp e).2.2 (by decide), if_pos (by rw [← hc]; rfl), zero_add]
      · rw [if_pos (by rw [← hc]; rfl), if_neg fun e => absurd (recv_iff.mp e).2.2 (by decide), add_zero]
    · rw [if_neg e, if_neg fun e' => e (hd.mp (recv_iff.mp e').1), if_neg fun e' => e (hd.mp (recv_iff.mp e').1)]
  · intro p _
    unfold owedBar; split
    · rfl
    · rw [tally_at, if_neg fun e => bar_ne_recv _ _ _ _ e.symm]
  · intro j' _ hj
    unfold owedSlot
    rw [Pi.add_apply, Finsupp.add_apply, tally_at, tally_at, if_neg fun e => hj (recv_iff.mp e).2.1.symm, if_neg fun e => hj (recv_iff.mp e).2.1.symm, add_zero]
  · exact fun h => absurd (Finset.mem_univ j) h

theorem seven (c : Dev nD) : (∑ d : Dev nD, if d = c then 0 else 1) = 7 := by revert c; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  exact seven c

theorem launch_recv (c : Dev nD) (j : Fin 7) (h : Fin 2) :
    tallyOn (recvCell c j h) (launchCredit (Pipeline.owing O₀) 0 (recvCell c j h)) = (tallyAt (recvCell c j h) () N : CellTallies nD τ sig Unit) := by
  unfold tallyAt; refine congrArg _ (Finsupp.ext fun u => ?_); cases u
  rw [Pipeline.launchCredit_owing, Finsupp.single_eq_same, Finset.sum_congr rfl fun d _ => owed_recv d c j h,
    Finset.sum_ite_eq' Finset.univ (prv c j) fun _ => N, if_pos (Finset.mem_univ _)]

/-- The credit of a device: its barrier's seven units and the bytes of every half slot. -/
theorem creds (c : Dev nD) : (Pipeline.launchCred O₀ c : sProp 𝕄) ⊢ iprop(cred (tallyAt (barCell c) () 7)
    ∗ bigSep Finset.univ fun j : Fin 7 => bigSep Finset.univ fun h : Fin 2 => cred (tallyAt (recvCell c j h) () N)) := by
  unfold Pipeline.launchCred
  have h1 : (bigSep Finset.univ fun sm : SemLoc sig => cred (tallyOn ((c : Thread nD τ), sm) (launchCredit (Pipeline.owing O₀) 0 ((c : Thread nD τ), sm))) : sProp 𝕄)
      ⊢ bigSep (Finset.univ.map ⟨csem, csem_inj⟩) fun sm : SemLoc sig => cred (tallyOn ((c : Thread nD τ), sm) (launchCredit (Pipeline.owing O₀) 0 ((c : Thread nD τ), sm))) :=
    BI.bigSep_subset (Finset.subset_univ _)
  refine h1.trans ?_
  rw [BI.bigSep_map, bigSep_ck]
  simp only [Function.Embedding.coeFn_mk]
  rw [launch_bar]
  refine sep_mono_right (sep_elim_right.trans ?_)
  simp only [launch_recv]
  exact .rfl

end Cert.Exchange

end
-- ==== Proof.Launch.lean ====
/-
  The launch: what each device is handed is what the program needs, what it leaves is what the launch takes back, and so the
  eight devices run to the end. `run_main` states what the memory holds then, over any float values.
-/
module

public import proofs.«01_k».proof.Proof.Deal
public import proofs.«01_k».proof.Proof.Gen.KernelIdeal.Launch
public import proofs.«01_k».proof.Proof.Gen.KernelIdeal.Points
public import Idealize.ShloMosaic.Lib.Ring
public import Idealize.ShloMosaic.Lib.Pipeline.CollectiveSegs
public import Idealize.ShloMosaic.Lib.Pipeline.Value

@[expose] public section

noncomputable section

namespace Cert.Exchange

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-- The machine at launch. -/
abbrev s₀ : MemSt nD τ sig (Elt F) := ⟨m, fun _ => 0, ρ⟩

/-! ## Cutting the buffers and putting them together -/

section Buffers
variable (c : Dev nD)

/-- The device's `w`, whole. -/
abbrev wFull : sProp 𝕄 := iprop(((c : Thread nD τ).loc main_arg1) ↦{fullShare} wAt m c)
/-- What remains of it when every copy has its share. -/
abbrev wKept : sProp 𝕄 := iprop(((c : Thread nD τ).loc main_arg1) ↦{shareDrop fullShare 8} wAt m c)

theorem w_shares : (bigSep Finset.univ fun i : Fin 8 => (((c : Thread nD τ).loc main_arg1) ↦{shareTok fullShare 8 i} wAt m c : sProp 𝕄))
    = bigSep Finset.univ fun h : Fin 2 => bigSep Finset.univ fun q : Fin 4 => wPts m c Finset.univ h q := by
  rw [← BI.bigSep_univ_prod (fun x : Fin 2 × Fin 4 => wPts m c Finset.univ x.1 x.2), BI.bigSep_univ_equiv (finProdFinEquiv : Fin 2 × Fin 4 ≃ Fin 8)]
  refine bigSep_congr fun x _ => ?_
  have h : (finProdFinEquiv x : Fin 8) = ⟨4 * x.1.val + x.2.val, by omega⟩ := Fin.ext (Nat.add_comm _ _)
  unfold wPts shr
  rw [h]

theorem w_cut : wFull m c ⊢ iprop(wKept m c ∗ bigSep Finset.univ fun h : Fin 2 => bigSep Finset.univ fun q : Fin 4 => wPts m c Finset.univ h q) := by
  rw [← w_shares]; exact pointsTo_toks_split fullShare 8
theorem w_join : iprop(wKept m c ∗ bigSep Finset.univ fun h : Fin 2 => bigSep Finset.univ fun q : Fin 4 => wPts m c Finset.univ h q) ⊢ wFull m c := by
  rw [← w_shares]; exact pointsTo_toks_join fullShare 8

theorem idle_eq : iprop(Idle m c 0 ∗ Idle m c 1) = iprop((bigSep Finset.univ fun h : Fin 2 => iprop(∃ f, bPts (F := F) c (bsSet h) f))
    ∗ (bigSep Finset.univ fun h : Fin 2 => bigSep Finset.univ fun q : Fin 4 => wPts m c Finset.univ h q) ∗ wZero c) := by
  rw [← halves (Idle m c)]
  unfold Idle idleQ wZero
  simp only [bigSep_sep']

/-- The three scratch buffers, each at some contents. -/
def scratch : sProp 𝕄 := iprop((∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f)
  ∗ (∃ f : Buf (Elt F) ((c : Thread nD τ).loc cc0_scratch2), ((c : Thread nD τ).loc cc0_scratch2) ↦{fullShare} f))

theorem b_cut (f : Buf (Elt F) ((c : Thread nD τ).loc cc0_scratch0)) : (((c : Thread nD τ).loc cc0_scratch0) ↦{fullShare} f : sProp 𝕄)
    ⊢ bigSep Finset.univ fun h : Fin 2 => iprop(∃ f, bPts (F := F) c (bsSet h) f) := by
  rw [Ring.pointsTo_blocks (ℓ := (c : Thread nD τ).loc cc0_scratch0) bsSet bs_disj b_univ.symm f]
  exact bigSep_mono fun h _ => by
    show (_ : sProp 𝕄) ⊢ _
    iintro H; iexists f; iexact H
theorem b_join (m : (ℓ : Loc nD τ sig) → Buf (Elt F) ℓ) (c : Dev nD) : (bigSep Finset.univ fun h : Fin 2 => iprop(∃ f, bPts (F := F) c (bsSet h) f) : sProp 𝕄)
    ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) bsSet bs_disj b_univ.symm (fW m c 0 0)

theorem s_cut (f : Buf (Elt F) ((c : Thread nD τ).loc cc0_scratch1)) : (((c : Thread nD τ).loc cc0_scratch1) ↦{fullShare} f : sProp 𝕄)
    = bigSep Finset.univ fun j : Fin 7 => bigSep Finset.univ fun h : Fin 2 => sPts c (hSet j h) f := by
  rw [Ring.pointsTo_blocks (ℓ := (c : Thread nD τ).loc cc0_scratch1) sSet s_disj s_univ.symm f]
  exact bigSep_congr fun j _ => Ring.pointsTo_sub_blocks (ℓ := (c : Thread nD τ).loc cc0_scratch1) (hSet j) (h_disj j) (sSet j) (s_union j).symm f
theorem s_some (f : Buf (Elt F) ((c : Thread nD τ).loc cc0_scratch1)) : (((c : Thread nD τ).loc cc0_scratch1) ↦{fullShare} f : sProp 𝕄)
    ⊢ bigSep Finset.univ fun j : Fin 7 => bigSep Finset.univ fun h : Fin 2 => iprop(∃ f, sPts (F := F) c (hSet j h) f) := by
  rw [s_cut]
  exact bigSep_mono fun j _ => bigSep_mono fun h _ => by
    show (_ : sProp 𝕄) ⊢ _
    iintro H; iexists f; iexact H

theorem r_cut (f : Buf (Elt F) ((c : Thread nD τ).loc cc0_scratch2)) : (((c : Thread nD τ).loc cc0_scratch2) ↦{fullShare} f : sProp 𝕄)
    = bigSep Finset.univ fun j : Fin 7 => rPts c (sSet j) f :=
  Ring.pointsTo_blocks (ℓ := (c : Thread nD τ).loc cc0_scratch2) sSet s_disj s_univ.symm f
theorem r_some (f : Buf (Elt F) ((c : Thread nD τ).loc cc0_scratch2)) : (((c : Thread nD τ).loc cc0_scratch2) ↦{fullShare} f : sProp 𝕄)
    ⊢ bigSep Finset.univ fun j : Fin 7 => iprop(∃ f, rPts (F := F) c (sSet j) f) := by
  rw [r_cut]
  exact bigSep_mono fun j _ => by
    show (_ : sProp 𝕄) ⊢ _
    iintro H; iexists f; iexact H

end Buffers

/-! ## What a device holds before and after its point -/

/-- What the launch hands a device beside its buffers: what is known of the semaphores, its own rights and positions, its
    credit, and its `w`. -/
def start (c : Dev nD) : sProp 𝕄 :=
  iprop(G' m c ∗ levAts L lv ∗ (cred (tallyAt (barCell c) () 7)
    ∗ bigSep Finset.univ fun j : Fin 7 => bigSep Finset.univ fun h : Fin 2 => cred (tallyAt (recvCell c j h) () N)) ∗ wFull m c)
def Φ₀ (c : Dev nD) : sProp 𝕄 := iprop(start m c ∗ scratch c)
/-- Afterwards it holds its buffers, and all its semaphores at zero. -/
def Φ₁ (c : Dev nD) : sProp 𝕄 := iprop((semVal (barCell c) 0 ∗ wFull m c) ∗ (wZero c ∗ kZero c) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xstg m c) ∗ stg c cc0_stg1_0 (outAt m c))

/-- What is handed over is what the program needs. -/
theorem enter (c : Dev nD) : bodyPre m ρ c ⊢ iprop(∃ K, progPre m K c ∗ wKept m c) := by
  unfold bodyPre Φ₀ start G' records own1 payToks scratch Dat.owesAt Pipeline.owesWithin
  iintro ⟨⟨⟨⟨%K, ⟨#HI, #HR⟩, Hat, ⟨HtB, HtS, HtR⟩, Hwz⟩, #Hlev, ⟨HcB, HcR⟩, Hw⟩, ⟨%f0, H0⟩, ⟨%f1, H1⟩, ⟨%f2, H2⟩⟩, ⟨%W, %hW, HO⟩, ⟨%d0, %g0, %hg0, Hx⟩, ⟨%d1, %g1, %hg1, Hout⟩⟩
  have hx : g0 = xstg m c := by rw [hg0]; unfold Dat.before; rw [if_pos (fetch0_0 t0_0)]; rfl
  subst hx
  ihave Hat := (Entails.of_eq (bigSep_ck fun k : Ck => atPos ER (kcell (c, k)) 0 (∅ : Finset (Fin 7)) 0)) $$ Hat
  icases Hat with ⟨HaB, HaS, HaR⟩
  ihave Hw := (w_cut m c) $$ Hw
  icases Hw with ⟨Hkept, Hw⟩
  ihave H0 := (b_cut (F := F) c f0) $$ H0
  ihave H1 := (s_some (F := F) c f1) $$ H1
  ihave H2 := (r_some (F := F) c f2) $$ H2
  iexists K
  isplitr [Hkept]
  · unfold progPre Ctx ow outPts
    isplitl [HO]
    · isplitr
      · isplitr; · iexact HI
        isplitr; · iexact HR
        iexact Hlev
      · iexists W; iexact HO
    isplitl [Hx Hout]
    · isplitl [Hx]; · iexact Hx
      iexists g1
      isplitr; · ipureintro; exact fun _ h => h.elim
      iexact Hout
    isplitl [H0 Hw Hwz]
    · iapply (Entails.of_eq (idle_eq m c).symm)
      isplitl [H0]; · iexact H0
      isplitl [Hw] <;> iassumption
    isplitl [HtB H2 HcB HaB]
    · isplitl [HtB H2]
      · isplitl [HtB] <;> iassumption
      isplitl [HcB]; · iexact HcB
      iexact HaB
    isplitl [H1 HtS HtR]
    · unfold sendWith
      simp only [bigSep_sep']
      isplitl [H1]; · iexact H1
      isplitl [HtS] <;> iassumption
    isplitl [HcR HaR]
    · unfold toWait
      simp only [bigSep_sep']
      isplitl [HcR]; · iexact HcR
      iexact HaR
    iexact HaS
  · iexact Hkept

/-- What the program leaves is what is taken back. -/
theorem leave (K : Dev nD × Ck → ℕ) (c : Dev nD) : iprop(progPost m K c ∗ wKept m c) ⊢ bodyPost m ρ c := by
  unfold progPost bodyPost Φ₁ scratch outPts ow
  rw [idle_eq, kZero_eq]
  simp only [bigSep_sep']
  iintro ⟨⟨⟨-, ⟨%W, HO⟩⟩, ⟨Hx, ⟨%f, %hf, Hout⟩⟩, ⟨H0, Hw, Hwz⟩, HzB, ⟨H2, HzR⟩, H1, HzS⟩, Hkept⟩
  ihave Hw := (w_join m c) $$ [Hw Hkept]
  · isplitl [Hkept] <;> iassumption
  ihave H0 := (b_join m c) $$ H0
  ihave H1 := (Entails.of_eq (s_cut c (fS m c)).symm) $$ H1
  ihave H2 := (Entails.of_eq (r_cut c (fR m c)).symm) $$ H2
  isplitl [HzB Hw Hwz HzS HzR H0 H1 H2]
  · isplitl [HzB Hw]
    · isplitl [HzB] <;> iassumption
    isplitl [Hwz HzS HzR]
    · isplitl [Hwz]; · iexact Hwz
      isplitl [HzS] <;> iassumption
    isplitl [H0]; · iexact H0
    isplitl [H1]
    · iexists _; iexact H1
    · iexists _; iexact H2
  isplitl [HO]
  · unfold Dat.owesAt Pipeline.owesWithin
    iexists W
    isplitr; · ipureintro; exact fun _ _ => Or.inl trivial
    iexact HO
  isplitl [Hx]
  · iexists _; isplitr; · (ipureintro; rfl)
    iexact Hx
  iexists f
  isplitr; · ipureintro; exact funext fun i => hf i trivial
  iexact Hout

theorem body_run (c : Dev nD) : bodyPre m ρ c ⊢ run c (program c) (bodyPost m ρ c) := by
  refine BIBase.Entails.trans (enter m ρ c) ?_
  iintro ⟨%K, H⟩
  iapply (run_post c (run_frame c (program_run m K c)) (leave m ρ K c))
  iexact H

theorem bigSep_W (Φ : Fin cfg0.W → sProp 𝕄) : bigSep Finset.univ Φ = iprop(Φ (0 : Fin 2) ∗ Φ (1 : Fin 2)) := bigSep_W0 Φ

theorem body_obligation (c : Dev nD) : BodyObligation (dats (F := F) m ρ 0 c) (defs₀ (F := F)) 𝒱₀ () Set.univ := fun t => by
  rw [fin_N0 t]
  rw [bigSep_W, bigSep_W]
  simp only [owns_whole]
  show bodyPre m ρ c ⊢ wp frame (wpE (defs₀ (F := F)) 𝒱₀ c none) Set.univ
    (cc0_body (F := F) xM (Memref.isWhole_whole _) wM (Memref.isWhole_whole _) oM (Memref.isWhole_whole _) bM (Memref.isWhole_whole _)
      sM (Memref.isWhole_whole _) rM (Memref.isWhole_whole _) cc0_scratch3 cc0_scratch4 cc0_scratch5) (fun _ => bodyPost m ρ c)
  rw [body_eq, wp_deviceId]
  exact body_run m ρ c

/-! ## The launch's conditions -/

theorem share_eq (c : Dev nD) (w : Fin cfg0.W) : (dats m ρ 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start
  isplitl
  · isplitl [HG]; · iexact HG
    isplitl [Hlev]; · iexact Hlev
    isplitl [Hc]; · iexact Hc
    iexact Hw
  · iempintro

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem last_exit (c : Dev nD) :
    (dats m ρ 0 c).Φ (Fin.last cfg0.N) ⊢ iprop((unscopedSems0 c ∗ wFull m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  exact .rfl

theorem staging_waits (c : Dev nD) : (levAts L lv : sProp 𝕄) ⊢ Pipeline.cellsWaits cfgs (dats m ρ) () 0 c :=
  Pipeline.cellsWaits_intro cfgs (dats m ρ) () 0 c fun w s t =>
    mayWait c _ (k := 0) (by
      have h : what (.dma ((cfg0.win w).sem s)) = none := what_none (by fin_cases w <;> fin_cases s <;> decide +kernel)
      unfold lv; rw [h]) (by
      rcases t with ⟨_ | _, ht⟩
      · exact above_O₀ c
      · exact above_zero 0)

/-! ## The run -/

/-- What array `w` of device `c`'s launch holds at the end. -/
def finalA (c : Dev nD) (w : Fin cfg0.W) : Buf (Elt F) ((cfg0.win w).arr.view.loc (c : Thread nD τ)) := (dats m ρ 0 c).arrAt w cfg0.N

theorem finalA_x (c : Dev nD) : finalA m ρ c (0 : Fin 2) = m ((c : Thread nD τ).loc main_arg0) :=
  (dats (F := F) m ρ 0 c).arrAt_in (0 : Fin 2) rfl _

set_option maxRecDepth 8000 in
/-- From any memory with all counters at zero, however the devices are scheduled, all eight run to the end; then each launch
    array is as computed, the weights are as they were and every counter is zero. -/
theorem run_arrays : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := staging_waits m ρ)
    (G := G m) (G' := G' m) (u₀ := u₀)
    (hu₀ := by
      unfold u₀
      iintro Hu
      ihave H := (own_split _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ wFull m c)) (Z := fun _ => iprop(emp))
    (hX := start_intro m ρ) (hin := first_intro m ρ) (hout := last_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, Hw⟩, -, HSI⟩
      icombine HSI Hw gives %hw
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hw i (Finset.mem_univ i)⟩
      iexact HSI)
    (hQ := fun _ h hs => ⟨fun c => ⟨(h c).1, (h c).2.2.2⟩, sem_eq_zero hs fun c => (h c).2.2.1⟩)

end Cert.Exchange

end
-- ==== Proof.Value.lean ====
/-
  The kernel's result over the extended reals: there the casts keep every number, so each device's result is its block of
  columns of the whole product, the negative entries replaced by zero.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.Layout
public import Idealize.ShloMosaic.Lib.ValueLayout

@[expose] public section

noncomputable section

namespace Cert.Exchange

open Cert.KernelIdeal Cert.KernelIdeal.Gen
open Idealize.ShloMosaic Idealize.ShloMosaic.TcCoe Idealize.SL.Sem
open Idealize.ShloMosaic.ValueIdx (ix2 ix3)

/-! ## The arrays after the run, over any float values -/

section Run
variable {F : FTy → Type} [FloatOps F]
variable (m : (ℓ : Loc nD τ sig) → Buf (Elt F) ℓ) (ρ : Dev nD → PrngReg)

theorem xstg_eq (c : Dev nD) : xstg m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result array is what the kernel left in the staging buffer. -/
theorem finalA_v1 (c : Dev nD) : finalA m ρ c (1 : Fin 2) = outAt m c := by
  have hz : (fun a => (win0_1.index (0 : Fin 1)) a * main_v1.ty.shape.size a) = fun _ => 0 := funext fun a => by fin_cases a <;> decide
  have ho : (win0_1.blk (0 : Fin 1)).view.read (Elt F) (finalA m ρ c (1 : Fin 2)) = outAt m c := by
    unfold finalA
    rw [show cfg0.N = ((0 : Fin 1) : Fin cfg0.N).val + 1 from rfl, (dats m ρ 0 c).arrAt_succ (1 : Fin 2) (0 : Fin 1), show (cfg0.win (1 : Fin 2)).flush (0 : Fin 1) = true from flush0_1 _, if_pos rfl]
    exact View.read_write_univ _ _
  exact (Memref.read_access_unit_zero (Elt F) main_v1 hz (fun a => by fin_cases a <;> decide) _).symm.trans ho

/-- From any memory with all counters at zero, all eight devices run to the end: each device's result is as computed, its
    arguments are as they were, and every counter is zero. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (finalA_v1 m ρ c), ((h.1 c).1 (0 : Fin 2)).trans (finalA_x m ρ c), (h.1 c).2⟩, h.2⟩)
    (run_arrays m ρ)

end Run

/-! ## The value over the extended reals -/

section Value

/-- The shape of the whole `x`. -/
abbrev Wh : Shape := ⟨2, ![4096, 4096]⟩
/-- An entry of the whole result: the sum of products, or zero where it is negative. -/
def entry (X : Vec Ideal Wh .f32) (W : Vec Ideal S4096x8192 .f32) (r : Fin 4096) (k : Fin 8192) : EReal :=
  max (∑ t : Fin 4096, X (ix2 r t) * W (ix2 t k)) 0

/-- An entry of what one step multiplies. -/
theorem relu_apply (x : Vec Ideal S512x4096 .f32) (w : Vec Ideal S1x4096x512 .f32) (r k : Fin 512) :
    relu x w (ix2 r k) = max (∑ t : Fin 4096, x (ix2 r t) * w (ix3 (⟨0, Nat.one_pos⟩ : Fin 1) t k)) 0 := by
  have h := Ideal.matmul_plain_apply (M := 512) (K := 4096) (N := 512) (φ₁ := .f32) (φ₂ := .f32) none (shapeCast S512x4096 x shapeCasts_S512x4096_S512x4096)
    (shapeCast S4096x512 w shapeCasts_S1x4096x512_S4096x512) (constant (F := Ideal) S512x512 .f32 0x00000000#32) r k
  show max (FloatOps.matmul (φ₁ := .f32) (φ₂ := .f32) (DotDims.plain 512 4096 512) none (shapeCast S512x4096 x shapeCasts_S512x4096_S512x4096)
    (shapeCast S4096x512 w shapeCasts_S1x4096x512_S4096x512) (constant (F := Ideal) S512x512 .f32 0x00000000#32) (ix2 r k)) (Ideal.ofBits .f32 0x00000000#32) = _
  rw [h]
  have h0 : (constant (F := Ideal) S512x512 .f32 0x00000000#32) (ix2 r k) = (0 : EReal) := Ideal.ofBits_zero_f32
  rw [h0, zero_add, Ideal.ofBits_zero_f32]
  congr 1
  refine Finset.sum_congr rfl fun t _ => ?_
  congr 1
  · exact shapeCast_apply x _ (ix2 r t) (ix2 r t) rfl
  · exact ValueIdx.shapeCast_1ab_ab_apply w _ t k

/-- The cast before the send changes nothing, -/
theorem reluB_apply (x : Vec Ideal S512x4096 .f32) (w : Vec Ideal S1x4096x512 .f32) (r k : Fin 512) :
    reluB x w (ix3 (⟨0, Nat.one_pos⟩ : Fin 1) r k) = relu x w (ix2 r k) :=
  ValueIdx.shapeCast_ab_1ab_apply (truncf .bf16 (relu x w) bitsLt_bf16_f32) _ _ r k
/-- nor the one after it. -/
theorem wide_apply (v : Vec Ideal S1x512x1024 .bf16) (r : Fin 512) (k : Fin 1024) :
    wide v (ix2 r k) = v (ix3 (⟨0, Nat.one_pos⟩ : Fin 1) r k) :=
  ValueIdx.shapeCast_1ab_ab_apply v _ r k

/-- Eight blocks of rows make up `x`, -/
theorem rows_tile : Layout.Tiles ⟨2, ![512, 4096]⟩ ⟨2, ![4096, 4096]⟩ 0 8 := by decide
/-- and eight blocks of columns the result. -/
theorem cols_tile : Layout.Tiles ⟨2, ![4096, 1024]⟩ ⟨2, ![4096, 8192]⟩ 1 8 := by decide

variable (m : (ℓ : Loc nD τ sig) → Buf (Elt Ideal) ℓ) (X : Vec Ideal Wh .f32) (W : Vec Ideal S4096x8192 .f32)
  (hx : ∀ c : Dev nD, m ((c : Thread nD τ).loc main_arg0) = Layout.block ⟨2, ![512, 4096]⟩ ⟨2, ![4096, 4096]⟩ 0 8 c X rows_tile)
  (hw : ∀ c : Dev nD, m ((c : Thread nD τ).loc main_arg1) = W)
include hx hw

/-- What device `c` multiplies in step `s`, half `h`, are entries of the whole result: its rows, the columns of device `c + s`. -/
theorem prod_apply (c : Dev nD) (s : Fin 8) (h : Fin 2) (r k : Fin 512) (i0 : Fin 4096) (i1 : Fin 8192)
    (h0 : i0.val = 512 * c.val + r.val) (h1 : i1.val = 1024 * ((c.val + s.val) % 8) + 512 * h.val + k.val) :
    prod m c s h (ix2 r k) = entry X W i0 i1 := by
  unfold prod
  rw [relu_apply, xstg_eq, hx]
  unfold entry
  congr 1
  refine Finset.sum_congr rfl fun t _ => ?_
  congr 1
  · refine congrArg X (idx2_ext ?_ rfl)
    show c.val * 512 + r.val = i0.val
    omega
  · show wAt m c _ = _
    unfold wAt
    rw [hw]
    exact congrArg W (idx2_ext rfl h1.symm)

/-- A device's result: the rows of all of `x`, its own columns. -/
theorem outAt_apply (c : Dev nD) (i : S4096x1024.Idx) (i1 : Fin 8192) (h1 : i1.val = 1024 * c.val + (i 1).val) :
    outAt m c i = entry X W (i 0) i1 := by
  have b0 : (i 0).val < 4096 := (i 0).isLt
  have b1 : (i 1).val < 1024 := (i 1).isLt
  have bc : c.val < 8 := c.isLt
  unfold outAt
  split
  · rename_i hc
    exact prod_apply m X W hx hw c 0 _ _ _ (i 0) i1 (by show (i 0).val = 512 * c.val + (i 0).val % 512; omega)
      (by show i1.val = 1024 * ((c.val + 0) % 8) + 512 * ((i 1).val / 512) + (i 1).val % 512; omega)
  · rename_i hc
    have hj : (c.val + 7 - (i 0).val / 512) % 8 < 7 := by omega
    show wide (got m c ⟨(c.val + 7 - (i 0).val / 512) % 8, hj⟩) (ix2 (⟨(i 0).val % 512, Nat.mod_lt _ (by decide)⟩ : Fin 512) (i 1)) = _
    refine (wide_apply _ _ _).trans ?_
    show prodB m (prv c ⟨(c.val + 7 - (i 0).val / 512) % 8, hj⟩) ⟨(c.val + 7 - (i 0).val / 512) % 8, hj⟩ (⟨(i 1).val / 512, by omega⟩ : Fin 2)
      (ix3 (⟨0, Nat.one_pos⟩ : Fin 1) (⟨(i 0).val % 512, Nat.mod_lt _ (by decide)⟩ : Fin 512) (⟨(i 1).val % 512, Nat.mod_lt _ (by decide)⟩ : Fin 512)) = _
    unfold prodB
    rw [reluB_apply]
    exact prod_apply m X W hx hw _ _ _ _ _ (i 0) i1
      (by show (i 0).val = 512 * ((c.val + 7 - (c.val + 7 - (i 0).val / 512) % 8) % 8) + (i 0).val % 512; omega)
      (by
        show i1.val = 1024 * (((c.val + 7 - (c.val + 7 - (i 0).val / 512) % 8) % 8 + ((c.val + 7 - (i 0).val / 512) % 8 + 1)) % 8) + 512 * ((i 1).val / 512) + (i 1).val % 512
        omega)

/-- The whole result as the reference computes it. -/
def whole (X : Vec Ideal Wh .f32) (W : Vec Ideal S4096x8192 .f32) : Vec Ideal S4096x8192 .f32 :=
  maximumf (F := Ideal) (φ := .f32) (Host.dotGeneral (F := Ideal) (φ₁ := .f32) (φ₂ := .f32) Cert.ReferenceIdeal.dot_S4096x4096_S4096x8192_S4096x8192_1_0_0_1_n_n none X W)
    (broadcastInDim Cert.ReferenceIdeal.S4096x8192 ![] Cert.ReferenceIdeal.Facts₀.bcast_S_S4096x8192 (constant Cert.ReferenceIdeal.S_ .f32 0x00000000#32))

omit hx hw m in
/-- Its entries. -/
theorem whole_apply (r : Fin 4096) (k : Fin 8192) : whole X W (ix2 r k) = entry X W r k := by
  have h := StackMember.dotGeneral_plain_apply (m := 4096) (k := 4096) (n := 8192) (φ₁ := .f32) (φ₂ := .f32) none X W r k
  show max (Host.dotGeneral (F := Ideal) (φ₁ := .f32) (φ₂ := .f32) (DotDims.plain 4096 4096 8192) none X W (ix2 r k)) (Ideal.ofBits .f32 0x00000000#32) = _
  rw [h, Ideal.ofBits_zero_f32]
  rfl

/-- Each device's result is its block of columns of the whole result. -/
theorem outAt_block (c : Dev nD) : outAt m c = Layout.block ⟨2, ![4096, 1024]⟩ ⟨2, ![4096, 8192]⟩ 1 8 c (whole X W) cols_tile := by
  funext i
  have b1 : (i 1).val < 1024 := (i 1).isLt
  have bc : c.val < 8 := c.isLt
  have hi : 1024 * c.val + (i 1).val < 8192 := by omega
  rw [outAt_apply m X W hx hw c i ⟨1024 * c.val + (i 1).val, hi⟩ rfl, ← whole_apply X W (i 0) ⟨1024 * c.val + (i 1).val, hi⟩]
  refine congrArg (whole X W) (idx2_ext rfl ?_)
  show 1024 * c.val + (i 1).val = c.val * 1024 + (i 1).val
  omega

end Value

end Cert.Exchange

end
-- ==== Proof.Claims.lean ====
/-
  The claims themselves: the kernel and the reference end on every input with their arguments unchanged and every
  semaphore at zero, and over the extended reals the devices' results are the blocks of the reference's result.
-/
module

public import proofs.«01_k».proof.Defs
public import proofs.«01_k».proof.Proof.Value
public import proofs.«01_k».proof.Proof.Gen.Kernel
public import Idealize.ShloMosaic.Lib.Quiescent

@[expose] public section

noncomputable section

namespace Cert.Exchange

open Cert.KernelIdeal Cert.KernelIdeal.Gen
open Idealize.ShloMosaic Idealize.ShloMosaic.TcCoe Idealize.SL.Sem

/-- The kernel over the extended reals ends, its arguments unchanged and its semaphores at zero. -/
theorem frame_kernelIdeal : Cert.quiescent_KernelIdeal := fun m ρ _ =>
  (θ_run defs _ _).mono (fun _ h => ⟨fun c => (h.1 c).2, h.2⟩) (run_main (F := Ideal) m ρ)

/-- The kernel printed over machine words and over the extended reals is one program: the bodies agree. -/
theorem bodies_eq {F : FTy → Type} [FloatOps F] : Cert.Kernel.defs₀ (F := F) = Cert.KernelIdeal.defs₀ := by
  unfold Cert.Kernel.defs₀ Cert.KernelIdeal.defs₀
  refine congrArg Defs.onTc (funext fun n => funext fun x => ?_)
  match n, x with
  | ⟨0, h⟩, (t, s) => rfl

/-- So do the tables made of them. -/
theorem defs_eq {F : FTy → Type} [FloatOps F] : Cert.Kernel.defs (F := F) = Cert.KernelIdeal.defs := by
  unfold Cert.Kernel.defs Cert.KernelIdeal.defs
  exact congrArg (Pipeline.defs _) bodies_eq

/-- The kernel over machine words ends, its arguments unchanged and its semaphores at zero. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

/-- The reference ends, its arguments unchanged; it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is its block of the reference's result. -/
theorem algebraic : Cert.algebraic_KernelIdeal_ReferenceIdeal := by
  intro m ρ m' ρ' _ h
  refine ⟨whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run defs _ _).mono
      (fun _ hr c => ⟨((hr.1 c).1).trans (outAt_block m _ _ (fun c => (h c).1) (fun c => (h c).2) c), (hr.1 c).2⟩) (run_main (F := Ideal) m ρ)
  · exact (θ_run Cert.ReferenceIdeal.defs _ _).mono (fun _ hr => hr 0) (Cert.ReferenceIdeal.Value.run (F := Ideal) m' ρ')

end Cert.Exchange

end
-- ==== Proof.lean ====
/- The certificate: the kernel and the reference end on every input with their arguments unchanged and every semaphore
   at zero, and over the extended reals the devices' results are the blocks of the reference's result. Each part is a
   theorem of Proof/Claims.lean; the programs' stated side conditions come first. -/
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Exchange.frame_kernel, Exchange.frame_kernelIdeal, Exchange.frame_referenceIdeal, trivial, Exchange.algebraic⟩

end Cert.Proof

end
